-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_in_order [hPre_rows_in_order : Cert.Pre_rows_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_order [hPre_rows_in_order : Cert.Pre_rows_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_rows_in_order [hKernelIdeal : Cert.KernelIdeal.Facts] [hPre_rows_in_order : Cert.Pre_rows_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_in_order m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_rows_in_order [hReferenceIdeal : Cert.ReferenceIdeal.Facts] [hPre_rows_in_order : Cert.Pre_rows_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_rows_in_order [hKernelIdeal : Cert.KernelIdeal.Facts] [hReferenceIdeal : Cert.ReferenceIdeal.Facts] [hPre_rows_in_order : Cert.Pre_rows_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_rows_in_order : Cert.Pre_rows_in_order.Facts),
    quiescent_Kernel (hKernel := hKernel)
    ∧ quiescent_KernelIdeal (hKernelIdeal := hKernelIdeal)
    ∧ quiescent_KernelIdeal_pre_rows_in_order (hKernelIdeal := hKernelIdeal) (hPre_rows_in_order := hPre_rows_in_order)
    ∧ quiescent_ReferenceIdeal (hReferenceIdeal := hReferenceIdeal)
    ∧ quiescent_ReferenceIdeal_pre_rows_in_order (hReferenceIdeal := hReferenceIdeal) (hPre_rows_in_order := hPre_rows_in_order)
    ∧ preserves_Kernel_KernelIdeal
    ∧ algebraic_KernelIdeal_ReferenceIdeal_pre_rows_in_order (hKernelIdeal := hKernelIdeal) (hReferenceIdeal := hReferenceIdeal) (hPre_rows_in_order := hPre_rows_in_order)
-- ==== Pre_rows_in_order.lean ====
abbrev S16384x128 : Shape := ⟨2, ![16384, 128]⟩
abbrev S4096x64 : Shape := ⟨2, ![4096, 64]⟩
abbrev S4096 : Shape := ⟨1, ![4096]⟩
abbrev S64x4x4 : Shape := ⟨3, ![64, 4, 4]⟩
abbrev S64x4 : Shape := ⟨2, ![64, 4]⟩
abbrev S384x256 : Shape := ⟨2, ![384, 256]⟩
abbrev S384x128 : Shape := ⟨2, ![384, 128]⟩
abbrev S384 : Shape := ⟨1, ![384]⟩

class Facts : Prop where

variable [Facts]

def fn {F : FTy → Type} [FloatOps F] (main_arg0 : FVec F S16384x128 .f32) (main_arg1 : FVec F S16384x128 .f32) (main_arg2 : FVec F S4096x64 .f32) (main_arg3 : FVec F S4096x64 .f32) (main_arg4 : IVec S4096 32) (main_arg5 : FVec F S64x4x4 .f32) (main_arg6 : FVec F S64x4 .f32) (main_arg7 : FVec F S384x256 .f32) (main_arg8 : FVec F S384x128 .f32) (main_arg9 : FVec F S384 .f32) (main_arg10 : FVec F S384 .f32) : IVec S4096 1 :=
  let main_v0 : IVec S4096 32 := iotaInDim S4096 32 0
  let main_v1 : IVec S4096 1 := cmpi .eq main_arg4 main_v0
  main_v1
-- ==== Kernel.lean ====
abbrev S16384x128 : Shape := ⟨2, ![16384, 128]⟩
abbrev S4096x64 : Shape := ⟨2, ![4096, 64]⟩
abbrev S4096 : Shape := ⟨1, ![4096]⟩
abbrev S64x4x4 : Shape := ⟨3, ![64, 4, 4]⟩
abbrev S64x4 : Shape := ⟨2, ![64, 4]⟩
abbrev S384x256 : Shape := ⟨2, ![384, 256]⟩
abbrev S384x128 : Shape := ⟨2, ![384, 128]⟩
abbrev S384 : Shape := ⟨1, ![384]⟩
abbrev S4x4x64 : Shape := ⟨3, ![4, 4, 64]⟩
abbrev S16x64 : Shape := ⟨2, ![16, 64]⟩
abbrev S4x64 : Shape := ⟨2, ![4, 64]⟩
abbrev S384x64x4 : Shape := ⟨3, ![384, 64, 4]⟩
abbrev S4x64x384 : Shape := ⟨3, ![4, 64, 384]⟩
abbrev S256x384 : Shape := ⟨2, ![256, 384]⟩
abbrev S128x384 : Shape := ⟨2, ![128, 384]⟩
abbrev S1x384 : Shape := ⟨2, ![1, 384]⟩
abbrev S1x1 : Shape := ⟨2, ![1, 1]⟩
abbrev S1024x128 : Shape := ⟨2, ![1024, 128]⟩
abbrev S1024x64 : Shape := ⟨2, ![1024, 64]⟩
abbrev S1x1024x64 : Shape := ⟨3, ![1, 1024, 64]⟩
abbrev S1 : Shape := ⟨1, ![1]⟩
abbrev S1x1x1 : Shape := ⟨3, ![1, 1, 1]⟩
abbrev S1x64 : Shape := ⟨2, ![1, 64]⟩
abbrev S64 : Shape := ⟨1, ![64]⟩
abbrev S1024x256 : Shape := ⟨2, ![1024, 256]⟩
abbrev S1024x384 : Shape := ⟨2, ![1024, 384]⟩
abbrev S_ : Shape := ⟨0, ![]⟩

abbrev nBuf : Space → Nat
  | .hbm => 23
  | .vmem => 16
  | .smem => 1
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S4096x64, .f32⟩
  | .hbm, ⟨3, _⟩ => ⟨S4096x64, .f32⟩
  | .hbm, ⟨4, _⟩ => ⟨S4096, .i32⟩
  | .hbm, ⟨5, _⟩ => ⟨S64x4x4, .f32⟩
  | .hbm, ⟨6, _⟩ => ⟨S64x4, .f32⟩
  | .hbm, ⟨7, _⟩ => ⟨S384x256, .f32⟩
  | .hbm, ⟨8, _⟩ => ⟨S384x128, .f32⟩
  | .hbm, ⟨9, _⟩ => ⟨S384, .f32⟩
  | .hbm, ⟨10, _⟩ => ⟨S384, .f32⟩
  | .hbm, ⟨11, _⟩ => ⟨S4x4x64, .f32⟩
  | .hbm, ⟨12, _⟩ => ⟨S16x64, .f32⟩
  | .hbm, ⟨13, _⟩ => ⟨S4x64, .f32⟩
  | .hbm, ⟨14, _⟩ => ⟨S384x64x4, .f32⟩
  | .hbm, ⟨15, _⟩ => ⟨S4x64x384, .f32⟩
  | .hbm, ⟨16, _⟩ => ⟨S256x384, .f32⟩
  | .hbm, ⟨17, _⟩ => ⟨S128x384, .f32⟩
  | .hbm, ⟨18, _⟩ => ⟨S1x384, .f32⟩
  | .hbm, ⟨19, _⟩ => ⟨S1x384, .f32⟩
  | .hbm, ⟨20, _⟩ => ⟨S16384x128, .f32⟩
  | .hbm, ⟨21, _⟩ => ⟨S1x1, .f32⟩
  | .hbm, ⟨22, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S16x64, .f32⟩
  | .local _ .vmem, ⟨9, _⟩ => ⟨S4x64, .f32⟩
  | .local _ .vmem, ⟨10, _⟩ => ⟨S256x384, .f32⟩
  | .local _ .vmem, ⟨11, _⟩ => ⟨S128x384, .f32⟩
  | .local _ .vmem, ⟨12, _⟩ => ⟨S1x384, .f32⟩
  | .local _ .vmem, ⟨13, _⟩ => ⟨S1x384, .f32⟩
  | .local _ .vmem, ⟨14, _⟩ => ⟨S1024x128, .f32⟩
  | .local _ .vmem, ⟨15, _⟩ => ⟨S1024x128, .f32⟩
  | .local _ .smem, ⟨0, _⟩ => ⟨S1x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .smem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S16384x128 : Shape := ⟨2, ![16384, 128]⟩
abbrev S4096x64 : Shape := ⟨2, ![4096, 64]⟩
abbrev S4096 : Shape := ⟨1, ![4096]⟩
abbrev S64x4x4 : Shape := ⟨3, ![64, 4, 4]⟩
abbrev S64x4 : Shape := ⟨2, ![64, 4]⟩
abbrev S384x256 : Shape := ⟨2, ![384, 256]⟩
abbrev S384x128 : Shape := ⟨2, ![384, 128]⟩
abbrev S384 : Shape := ⟨1, ![384]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x128 : Shape := ⟨2, ![4096, 128]⟩
abbrev S4096x64x1 : Shape := ⟨3, ![4096, 64, 1]⟩
abbrev S4096x64x4 : Shape := ⟨3, ![4096, 64, 4]⟩
abbrev S4096x64x1x4 : Shape := ⟨4, ![4096, 64, 1, 4]⟩
abbrev S64x4096x1x4 : Shape := ⟨4, ![64, 4096, 1, 4]⟩
abbrev S1x64x4 : Shape := ⟨3, ![1, 64, 4]⟩
abbrev S4x4096x64 : Shape := ⟨3, ![4, 4096, 64]⟩
abbrev S1x4096x64 : Shape := ⟨3, ![1, 4096, 64]⟩
abbrev S4096x256 : Shape := ⟨2, ![4096, 256]⟩
abbrev S256x384 : Shape := ⟨2, ![256, 384]⟩
abbrev S4096x384 : Shape := ⟨2, ![4096, 384]⟩
abbrev S1x384 : Shape := ⟨2, ![1, 384]⟩
abbrev S128x384 : Shape := ⟨2, ![128, 384]⟩

abbrev nBuf : Space → Nat
  | .hbm => 147
  | .vmem => 0
  | .smem => 0
  | _ => 0

abbrev hbmTy0_0 (i : Nat) : BufTy := match i % 128 with
  | 0 => ⟨S16384x128, .f32⟩
  | 1 => ⟨S16384x128, .f32⟩
  | 2 => ⟨S4096x64, .f32⟩
  | 3 => ⟨S4096x64, .f32⟩
  | 4 => ⟨S4096, .i32⟩
  | 5 => ⟨S64x4x4, .f32⟩
  | 6 => ⟨S64x4, .f32⟩
  | 7 => ⟨S384x256, .f32⟩
  | 8 => ⟨S384x128, .f32⟩
  | 9 => ⟨S384, .f32⟩
  | 10 => ⟨S384, .f32⟩
  | 11 => ⟨S_, .i32⟩
  | 12 => ⟨S4096, .i32⟩
  | 13 => ⟨S4096, .i1⟩
  | 14 => ⟨S_, .i32⟩
  | 15 => ⟨S4096, .i32⟩
  | 16 => ⟨S4096, .i32⟩
  | 17 => ⟨S4096, .i32⟩
  | 18 => ⟨S4096x1, .i32⟩
  | 19 => ⟨S1, .i32⟩
  | 20 => ⟨S_, .i32⟩
  | 21 => ⟨S4096x1, .i32⟩
  | 22 => ⟨S4096x1, .i1⟩
  | 23 => ⟨S1x1, .i32⟩
  | 24 => ⟨S4096x1, .i32⟩
  | 25 => ⟨S4096x1, .i1⟩
  | 26 => ⟨S4096x1, .i1⟩
  | 27 => ⟨S_, .i1⟩
  | 28 => ⟨S4096, .i1⟩
  | 29 => ⟨S4096x128, .f32⟩
  | 30 => ⟨S4096x128, .i1⟩
  | 31 => ⟨S_, .f32⟩
  | 32 => ⟨S4096x128, .f32⟩
  | 33 => ⟨S4096x128, .f32⟩
  | 34 => ⟨S4096x64, .f32⟩
  | 35 => ⟨S4096x64, .f32⟩
  | 36 => ⟨S4096x64, .f32⟩
  | 37 => ⟨S_, .f32⟩
  | 38 => ⟨S4096x64, .f32⟩
  | 39 => ⟨S4096x64, .f32⟩
  | 40 => ⟨S4096x64, .f32⟩
  | 41 => ⟨S4096x64, .f32⟩
  | 42 => ⟨S4096x64, .f32⟩
  | 43 => ⟨S4096x64, .f32⟩
  | 44 => ⟨S4096x64, .f32⟩
  | 45 => ⟨S4096x64, .f32⟩
  | 46 => ⟨S4096x64, .f32⟩
  | 47 => ⟨S_, .f32⟩
  | 48 => ⟨S_, .f32⟩
  | 49 => ⟨S_, .f32⟩
  | 50 => ⟨S_, .f32⟩
  | 51 => ⟨S4096x64x1, .f32⟩
  | 52 => ⟨S4096x64x1, .f32⟩
  | 53 => ⟨S4096x64x1, .f32⟩
  | 54 => ⟨S4096x64x1, .f32⟩
  | 55 => ⟨S4096x64x4, .f32⟩
  | 56 => ⟨S4096x64x1x4, .f32⟩
  | 57 => ⟨S64x4096x1x4, .f32⟩
  | 58 => ⟨S4096x64x1x4, .f32⟩
  | 59 => ⟨S4096x64x4, .f32⟩
  | 60 => ⟨S1x64x4, .f32⟩
  | 61 => ⟨S4096x64x4, .f32⟩
  | 62 => ⟨S4096x64x4, .f32⟩
  | 63 => ⟨S_, .f32⟩
  | 64 => ⟨S4096x64x4, .f32⟩
  | 65 => ⟨S4096x64x4, .f32⟩
  | 66 => ⟨S4x4096x64, .f32⟩
  | 67 => ⟨S1x4096x64, .f32⟩
  | 68 => ⟨S4x4096x64, .f32⟩
  | 69 => ⟨S4x4096x64, .f32⟩
  | 70 => ⟨S4096x64x4, .f32⟩
  | 71 => ⟨S4096x256, .f32⟩
  | 72 => ⟨S_, .i32⟩
  | 73 => ⟨S4096, .i32⟩
  | 74 => ⟨S4096, .i1⟩
  | 75 => ⟨S_, .i32⟩
  | 76 => ⟨S4096, .i32⟩
  | 77 => ⟨S4096, .i32⟩
  | 78 => ⟨S4096, .i32⟩
  | 79 => ⟨S4096x1, .i32⟩
  | 80 => ⟨S1, .i32⟩
  | 81 => ⟨S_, .i32⟩
  | 82 => ⟨S4096x1, .i32⟩
  | 83 => ⟨S4096x1, .i1⟩
  | 84 => ⟨S1x1, .i32⟩
  | 85 => ⟨S4096x1, .i32⟩
  | 86 => ⟨S4096x1, .i1⟩
  | 87 => ⟨S4096x1, .i1⟩
  | 88 => ⟨S_, .i1⟩
  | 89 => ⟨S4096, .i1⟩
  | 90 => ⟨S4096x128, .f32⟩
  | 91 => ⟨S4096x128, .i1⟩
  | 92 => ⟨S_, .f32⟩
  | 93 => ⟨S4096x128, .f32⟩
  | 94 => ⟨S4096x128, .f32⟩
  | 95 => ⟨S256x384, .f32⟩
  | 96 => ⟨S4096x384, .f32⟩
  | 97 => ⟨S1x384, .f32⟩
  | 98 => ⟨S4096x384, .f32⟩
  | 99 => ⟨S4096x384, .f32⟩
  | 100 => ⟨S128x384, .f32⟩
  | 101 => ⟨S4096x384, .f32⟩
  | 102 => ⟨S1x384, .f32⟩
  | 103 => ⟨S4096x384, .f32⟩
  | 104 => ⟨S4096x384, .f32⟩
  | 105 => ⟨S4096x128, .f32⟩
  | 106 => ⟨S4096x128, .f32⟩
  | 107 => ⟨S4096x128, .f32⟩
  | 108 => ⟨S4096x128, .f32⟩
  | 109 => ⟨S4096x128, .f32⟩
  | 110 => ⟨S4096x128, .f32⟩
  | 111 => ⟨S4096x128, .f32⟩
  | 112 => ⟨S4096x128, .f32⟩
  | 113 => ⟨S4096x128, .f32⟩
  | 114 => ⟨S_, .f32⟩
  | 115 => ⟨S4096x128, .f32⟩
  | 116 => ⟨S4096x128, .f32⟩
  | 117 => ⟨S_, .f32⟩
  | 118 => ⟨S4096x128, .f32⟩
  | 119 => ⟨S4096x128, .f32⟩
  | 120 => ⟨S4096x128, .f32⟩
  | 121 => ⟨S4096x128, .f32⟩
  | 122 => ⟨S4096x128, .f32⟩
  | 123 => ⟨S_, .f32⟩
  | 124 => ⟨S4096x128, .f32⟩
  | 125 => ⟨S4096x128, .f32⟩
  | 126 => ⟨S_, .f32⟩
  | 127 => ⟨S4096x128, .f32⟩
  | _ => ⟨S16384x128, .f32⟩

abbrev hbmTy0_1 (i : Nat) : BufTy := match i % 128 with
  | 0 => ⟨S4096x128, .f32⟩
  | 1 => ⟨S4096x128, .f32⟩
  | 2 => ⟨S4096x128, .f32⟩
  | 3 => ⟨S4096x128, .f32⟩
  | 4 => ⟨S_, .f32⟩
  | 5 => ⟨S4096x128, .f32⟩
  | 6 => ⟨S4096x128, .f32⟩
  | 7 => ⟨S4096x128, .f32⟩
  | 8 => ⟨S4096x128, .f32⟩
  | 9 => ⟨S4096x128, .f32⟩
  | 10 => ⟨S_, .i32⟩
  | 11 => ⟨S4096, .i32⟩
  | 12 => ⟨S4096, .i1⟩
  | 13 => ⟨S_, .i32⟩
  | 14 => ⟨S4096, .i32⟩
  | 15 => ⟨S4096, .i32⟩
  | 16 => ⟨S4096, .i32⟩
  | 17 => ⟨S4096x1, .i32⟩
  | 18 => ⟨S16384x128, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_cst : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_cst_0 : Ref sig .tc := ⟨.hbm, 47, rfl⟩
abbrev main_v13 : Ref sig .tc := ⟨.hbm, 48, rfl⟩
abbrev main_cst_1 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_call1_cst : Ref sig .tc := ⟨.hbm, 63, rfl⟩
abbrev main_call1_v0 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_call2_c : Ref sig .tc := ⟨.hbm, 72, rfl⟩
abbrev main_call2_v0 : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_c_1 : Ref sig .tc := ⟨.hbm, 80, rfl⟩
abbrev main_call2_c_2 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_3 : Ref sig .tc := ⟨.hbm, 88, rfl⟩
abbrev main_call2_v12 : Ref sig .tc := ⟨.hbm, 89, rfl⟩
abbrev main_call2_v13 : Ref sig .tc := ⟨.hbm, 90, rfl⟩
abbrev main_call2_v14 : Ref sig .tc := ⟨.hbm, 91, rfl⟩
abbrev main_call2_cst : Ref sig .tc := ⟨.hbm, 92, rfl⟩
abbrev main_call2_v15 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_cst_2 : Ref sig .tc := ⟨.hbm, 114, rfl⟩
abbrev main_v54 : Ref sig .tc := ⟨.hbm, 115, rfl⟩
abbrev main_v55 : Ref sig .tc := ⟨.hbm, 116, rfl⟩
abbrev main_cst_3 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_cst_4 : Ref sig .tc := ⟨.hbm, 123, rfl⟩
abbrev main_v61 : Ref sig .tc := ⟨.hbm, 124, rfl⟩
abbrev main_v62 : Ref sig .tc := ⟨.hbm, 125, rfl⟩
abbrev main_cst_5 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_cst_6 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_c : Ref sig .tc := ⟨.hbm, 138, rfl⟩
abbrev main_v73 : Ref sig .tc := ⟨.hbm, 139, rfl⟩
abbrev main_v74 : Ref sig .tc := ⟨.hbm, 140, rfl⟩
abbrev main_c_7 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩

abbrev nD : Nat := 1
abbrev τ : Topo := Topo.v7x

variable {F : FTy → Type} [FloatOps F]
-- ==== Proof.Rule.lean ====
module

public import Idealize.ShloMosaic.Lib.Pointwise
public import Idealize.ShloMosaic.Lib.IdealHost
public import Idealize.ShloMosaic.Lib.Pipeline.ValueKit.Acc

@[expose] public section

/-!
# The update of one observed row

The whole problem is one rule, applied to every observed row by itself, and a sum over the rows. This module writes
the rule down over the extended reals, for one row of the arrays, without any array:

* `x`, `k` are the row's 64 observations and their mask, `p` its 128 parameters, `h` its old state of 128 numbers;
* `w d e o` and `b d o` are the preparation's weights and bias: column `d`, feature `e`, output `o`;
* `W g q`, `U g j` and their biases belong to the cell's gates `g`.
-/

noncomputable section

namespace Cert.Rule

open Idealize.ShloMosaic

/-- The small constant that keeps a variance away from zero. -/
def small : EReal := Ideal.ofBits .f32 0x358637BD#32

/-- The mean of column `d`. -/
def mean (p : Fin 128 → EReal) (d : Fin 64) : EReal := p ⟨d.val, by omega⟩

/-- The variance of column `d`. -/
def var (p : Fin 128 → EReal) (d : Fin 64) : EReal :=
  FloatOps.absf (F := Ideal) (φ := .f32) (p ⟨64 + d.val, by omega⟩) + small

/-- The error of column `d`: the distance from the mean, over the root of the variance. -/
def err (x : Fin 64 → EReal) (p : Fin 128 → EReal) (d : Fin 64) : EReal :=
  Ideal.div (x d - mean p d) (Ideal.sqrt (var p d))

/-- Column `d`'s part of the loss, before it is halved. -/
def penalty (x k : Fin 64 → EReal) (p : Fin 128 → EReal) (d : Fin 64) : EReal :=
  (err x p d * err x p d + Ideal.log (var p d)) * k d

/-- Output `o` of column `d`'s preparation. -/
def feature (x k : Fin 64 → EReal) (p : Fin 128 → EReal) (w : Fin 64 → Fin 4 → Fin 4 → EReal) (b : Fin 64 → Fin 4 → EReal)
    (d : Fin 64) (o : Fin 4) : EReal :=
  max (x d * w d 0 o + mean p d * w d 1 o + var p d * w d 2 o + err x p d * w d 3 o + b d o) 0 * k d

/-- The 256 prepared inputs: place `q` is output `q % 4` of column `q / 4`. -/
def input (x k : Fin 64 → EReal) (p : Fin 128 → EReal) (w : Fin 64 → Fin 4 → Fin 4 → EReal) (b : Fin 64 → Fin 4 → EReal)
    (q : Fin 256) : EReal :=
  feature x k p w b ⟨q.val / 4, by omega⟩ ⟨q.val % 4, by omega⟩

/-- What `n` numbers bring to gate `g`. -/
def gate {n : ℕ} (u : Fin n → EReal) (W : Fin 384 → Fin n → EReal) (b : Fin 384 → EReal) (g : Fin 384) : EReal :=
  (∑ q, u q * W g q) + b g

/-- The new state at place `j`, from what the inputs and the old state bring to the gates. -/
def cell (gi gh : Fin 384 → EReal) (h : Fin 128 → EReal) (j : Fin 128) : EReal :=
  (1 - Ideal.logistic (gi ⟨128 + j.val, by omega⟩ + gh ⟨128 + j.val, by omega⟩))
      * Ideal.tanh (gi ⟨256 + j.val, by omega⟩
          + Ideal.logistic (gi ⟨j.val, by omega⟩ + gh ⟨j.val, by omega⟩) * gh ⟨256 + j.val, by omega⟩)
    + Ideal.logistic (gi ⟨128 + j.val, by omega⟩ + gh ⟨128 + j.val, by omega⟩) * h j

/-! ## What the kernel writes differently -/

/-- The small constant is a positive real. -/
theorem small_pos : ∃ e : ℝ, 0 < e ∧ small = (e : EReal) := by
  refine ⟨8796093 / 2 ^ 43, by norm_num, ?_⟩
  unfold small
  simp [Ideal.ofBits, Ideal.ieee, -EReal.coe_mul]
  norm_num

/-- A variance is positive. -/
theorem var_pos (p : Fin 128 → EReal) (d : Fin 64) : 0 < var p d := by
  obtain ⟨e, he, hs⟩ := small_pos
  have h0 : (0 : EReal) < small := by rw [hs]; exact_mod_cast he
  have h1 : (0 : EReal) ≤ FloatOps.absf (F := Ideal) (φ := .f32) (p ⟨64 + d.val, by omega⟩) := by
    show (0 : EReal) ≤ max (p ⟨64 + d.val, by omega⟩) (-(p ⟨64 + d.val, by omega⟩))
    rcases le_total 0 (p ⟨64 + d.val, by omega⟩) with h | h
    · exact le_max_of_le_left h
    · exact le_max_of_le_right (by rw [EReal.le_neg, neg_zero]; exact h)
  calc (0 : EReal) < small := h0
    _ = 0 + small := (zero_add _).symm
    _ ≤ var p d := add_le_add_left h1 small

/-- Over a positive number, a quotient by the root is a product with the root's reciprocal. -/
theorem mul_rsqrt (a v : EReal) (hv : 0 < v) : a * Ideal.rsqrt v = Ideal.div a (Ideal.sqrt v) := by
  induction v with
  | bot => exact absurd hv not_lt_bot
  | top =>
    rw [Ideal.rsqrt_top, Ideal.sqrt_top, mul_zero]
    unfold Ideal.div
    rw [if_neg EReal.top_ne_zero, EReal.inv_top, mul_zero]
  | coe r =>
    have hr : 0 < r := by exact_mod_cast hv
    rw [Ideal.rsqrt_coe, Ideal.sqrt_coe, if_neg hr.not_gt, if_neg hr.ne', if_neg hr.not_gt,
      Ideal.div_coe (Real.sqrt_pos.2 hr).ne', one_div]

/-- The error, as a product with the reciprocal of the root. -/
theorem err_eq (x : Fin 64 → EReal) (p : Fin 128 → EReal) (d : Fin 64) :
    (x d - mean p d) * Ideal.rsqrt (var p d) = err x p d := mul_rsqrt _ _ (var_pos p d)

/-- A sum over the 256 places, taken output by output and column by column. -/
theorem sum_places (f : Fin 64 → Fin 4 → EReal) :
    ∑ q : Fin 256, f ⟨q.val / 4, by omega⟩ ⟨q.val % 4, by omega⟩
      = ∑ d, f d 0 + (∑ d, f d 1 + (∑ d, f d 2 + ∑ d, f d 3)) := by
  have h : ∑ q : Fin 256, f ⟨q.val / 4, by omega⟩ ⟨q.val % 4, by omega⟩ = ∑ d : Fin 64, ∑ o : Fin 4, f d o :=
    (Fin.sum_univ_mul_divNat_modNat 64 4 f)
  rw [h, Finset.sum_comm, Fin.sum_univ_four]
  simp only [add_assoc]

/-- A sum over 256 places, a quarter at a time. -/
theorem sum_quarters (f : Fin 256 → EReal) :
    ∑ q, f q = ∑ d : Fin 64, f ⟨d.val, by omega⟩ + (∑ d : Fin 64, f ⟨64 + d.val, by omega⟩
      + (∑ d : Fin 64, f ⟨128 + d.val, by omega⟩ + ∑ d : Fin 64, f ⟨192 + d.val, by omega⟩)) := by
  rw [← Fin.sum_mul_add_fin 4 64 f (by decide), Fin.sum_univ_four]
  simp only [add_assoc]
  refine congrArg₂ (· + ·) (Finset.sum_congr rfl fun d _ => congrArg f (Fin.ext ?_)) rfl
  exact Nat.zero_add d.val

/-- The 256 products of the outputs with their weights, taken output by output and column by column. -/
theorem sum_input (f : Fin 64 → Fin 4 → EReal) (V : Fin 256 → EReal) :
    ∑ q : Fin 256, f ⟨q.val / 4, by omega⟩ ⟨q.val % 4, by omega⟩ * V q
      = ∑ d : Fin 64, f d 0 * V ⟨4 * d.val, by omega⟩ + (∑ d : Fin 64, f d 1 * V ⟨4 * d.val + 1, by omega⟩
        + (∑ d : Fin 64, f d 2 * V ⟨4 * d.val + 2, by omega⟩ + ∑ d : Fin 64, f d 3 * V ⟨4 * d.val + 3, by omega⟩)) := by
  refine (Finset.sum_congr rfl fun q _ => ?_).trans (sum_places fun d o => f d o * V ⟨4 * d.val + o.val, by omega⟩)
  exact congrArg (_ * V ·) (Fin.ext (Nat.div_add_mod q.val 4).symm)

/-- One half. -/
def half : EReal := Ideal.ofBits .f32 0x3F000000#32

/-- One half is a real number, not negative. -/
theorem half_real : ∃ e : ℝ, 0 ≤ e ∧ half = (e : EReal) := by
  refine ⟨1 / 2, by norm_num, ?_⟩
  unfold half
  simp [Ideal.ofBits, Ideal.ieee, -EReal.coe_mul]
  norm_num

/-- Half a sum is the sum of the halves. -/
theorem half_add (a b : EReal) : half * (a + b) = half * a + half * b := by
  obtain ⟨e, he, hs⟩ := half_real
  rw [hs]
  exact EReal.left_distrib_of_nonneg_of_ne_top (by exact_mod_cast he) (EReal.coe_ne_top e) a b

/-- Half a sum of any length is the sum of the halves. -/
theorem half_sum {n : ℕ} (f : Fin n → EReal) : ∑ i, half * f i = half * ∑ i, f i :=
  (map_sum ({ toFun := (half * ·), map_zero' := mul_zero half, map_add' := half_add } : EReal →+ EReal) f Finset.univ).symm

end Cert.Rule
-- ==== Proof.Block.lean ====
module

public import proofs.«01_k».proof.Proof.Gen.KernelIdeal.Skeleton
public import proofs.«01_k».proof.Proof.Rule
public import Idealize.ShloMosaic.Lib.Pointwise

@[expose] public section

set_option maxRecDepth 16384

/-!
# What one block computes

The body handles 1024 rows at once. Every row `r` of the block is computed by itself: this module reads the body's
arithmetic at one row, for blocks holding anything, and finds the rule of one row.

`x`, `k` are the observations and the mask, `mu` and `s` the two halves of the parameters; `w₀ … w₃` and `b` are the
preparation's weights and bias of one output, each a row over the 64 columns.
-/

noncomputable section

namespace Cert.KernelIdeal.Block

open Cert.KernelIdeal Cert.KernelIdeal.Gen Idealize.ShloMosaic Idealize.ShloMosaic.TcCoe Idealize.SL.Sem

/-- One output of one column's preparation, from the six numbers it reads, four weights and a bias. -/
def prep (x k mu v e w₀ w₁ w₂ w₃ b : EReal) : EReal := max (x * w₀ + mu * w₁ + v * w₂ + e * w₃ + b) 0 * k

section
variable (x k mu s v e : FVec Ideal S1024x64 .f32) (w₀ w₁ w₂ w₃ b : Vec Ideal S1x64 .f32) (r : Fin 1024) (d : Fin 64)

/-- The first output. -/
theorem first_at : k0_pay7 k mu v e (k0_pay5 x w₀) (k0_pay6 w₁) w₂ w₃ b (ix2 r d)
    = prep (x (ix2 r d)) (k (ix2 r d)) (mu (ix2 r d)) (v (ix2 r d)) (e (ix2 r d)) (w₀ (ix2 0 d)) (w₁ (ix2 0 d)) (w₂ (ix2 0 d)) (w₃ (ix2 0 d)) (b (ix2 0 d)) := by
  pointwise [k0_pay7, k0_pay5, k0_pay6]
  rfl

/-- The second output. -/
theorem second_at : k0_pay10 k (k0_pay8 x mu v w₀ w₁ w₂) (k0_pay9 e w₃) b (ix2 r d)
    = prep (x (ix2 r d)) (k (ix2 r d)) (mu (ix2 r d)) (v (ix2 r d)) (e (ix2 r d)) (w₀ (ix2 0 d)) (w₁ (ix2 0 d)) (w₂ (ix2 0 d)) (w₃ (ix2 0 d)) (b (ix2 0 d)) := by
  pointwise [k0_pay10, k0_pay8, k0_pay9]
  rfl

/-- The third output. -/
theorem third_at : k0_pay11 x k mu v e w₀ w₁ w₂ w₃ b (ix2 r d)
    = prep (x (ix2 r d)) (k (ix2 r d)) (mu (ix2 r d)) (v (ix2 r d)) (e (ix2 r d)) (w₀ (ix2 0 d)) (w₁ (ix2 0 d)) (w₂ (ix2 0 d)) (w₃ (ix2 0 d)) (b (ix2 0 d)) := by
  pointwise [k0_pay11]
  rfl

/-- The first weight of the fourth output, repeated along the rows. -/
theorem repeated_at : k0_pay12 w₀ (ix2 r d) = w₀ (ix2 0 d) := by
  pointwise [k0_pay12]

/-- What the four outputs, laid side by side, bring to gate `g`: four sums over the columns. The fourth output's first
weight comes as a block `z`. -/
theorem side_by_side (z u₀ u₁ u₂ : FVec Ideal S1024x64 .f32) (W : Vec Ideal S256x384 .f32) (c : Vec Ideal S1x384 .f32) (g : Fin 384) :
    k0_pay13 x k mu v e u₀ u₁ u₂ z w₁ w₂ w₃ b W c (ix2 r g)
      = (∑ d : Fin 64, u₀ (ix2 r d) * W (ix2 ⟨d.val, by omega⟩ g)
          + (∑ d : Fin 64, u₁ (ix2 r d) * W (ix2 ⟨64 + d.val, by omega⟩ g)
          + (∑ d : Fin 64, u₂ (ix2 r d) * W (ix2 ⟨128 + d.val, by omega⟩ g)
          + ∑ d : Fin 64, prep (x (ix2 r d)) (k (ix2 r d)) (mu (ix2 r d)) (v (ix2 r d)) (e (ix2 r d)) (z (ix2 r d)) (w₁ (ix2 0 d)) (w₂ (ix2 0 d))
              (w₃ (ix2 0 d)) (b (ix2 0 d)) * W (ix2 ⟨192 + d.val, by omega⟩ g))))
        + c (ix2 0 g) := by
  pointwise [k0_pay13]
  refine congrArg (· + c (ix2 0 g)) ?_
  rw [Rule.sum_quarters]
  refine congrArg₂ (· + ·) (Finset.sum_congr rfl fun d _ => ?_) (congrArg₂ (· + ·) (Finset.sum_congr rfl fun d _ => ?_)
    (congrArg₂ (· + ·) (Finset.sum_congr rfl fun d _ => ?_) (Finset.sum_congr rfl fun d _ => ?_)))
  · rw [dif_pos d.isLt]
  · rw [dif_neg (by show ¬ 64 + d.val < 64; omega)]
    simp only [show 64 + d.val - 64 = d.val by omega, d.isLt, dite_true, Fin.eta]
  · rw [dif_neg (by show ¬ 128 + d.val < 64; omega), dif_neg (by show ¬ 128 + d.val - 64 < 64; omega)]
    simp only [show 128 + d.val - 64 - 64 = d.val by omega, d.isLt, dite_true, Fin.eta]
  · rw [dif_neg (by show ¬ 192 + d.val < 64; omega), dif_neg (by show ¬ 192 + d.val - 64 < 64; omega),
      dif_neg (by show ¬ 192 + d.val - 64 - 64 < 64; omega)]
    simp only [show 192 + d.val - 64 - 64 - 64 = d.val by omega, Fin.eta]
    rfl
end

section
variable (x k mu s z : FVec Ideal S1024x64 .f32) (r : Fin 1024)
variable (p : Fin 128 → EReal)

/-- The block's variances are the rule's. -/
theorem var_at (d : Fin 64) (hs : s (ix2 r d) = p ⟨64 + d.val, by omega⟩) : k0_pay2 (F := Ideal) s (ix2 r d) = Rule.var p d := by
  pointwise [k0_pay2]
  rw [hs]
  rfl

/-- The block's errors are the rule's. -/
theorem err_at (d : Fin 64) (hmu : mu (ix2 r d) = Rule.mean p d) (hs : s (ix2 r d) = p ⟨64 + d.val, by omega⟩) :
    k0_pay3 (F := Ideal) x mu s (ix2 r d) = Rule.err (fun d => x (ix2 r d)) p d := by
  pointwise [k0_pay3]
  rw [var_at s r p d hs, hmu]
  exact Rule.err_eq (fun d => x (ix2 r d)) p d

/-- The block's step of the loss: half the sum of its rows' penalties, on top of what there was. -/
theorem loss_at (a : Elt Ideal .f32) (p : Fin 1024 → Fin 128 → EReal) (hmu : ∀ r d, mu (ix2 r d) = Rule.mean (p r) d)
    (hs : ∀ (r : Fin 1024) (d : Fin 64), s (ix2 r d) = p r ⟨64 + d.val, by omega⟩) :
    k0_pay4 x k mu s a
      = a + Rule.half * ∑ r : Fin 1024, ∑ d : Fin 64, Rule.penalty (fun d => x (ix2 r d)) (fun d => k (ix2 r d)) (p r) d := by
  pointwise [k0_pay4]
  refine congrArg (fun u => a + Rule.half * u) (Finset.sum_congr rfl fun r _ => Finset.sum_congr rfl fun d _ => ?_)
  rw [err_at x mu s r (p r) d (hmu r d) (hs r d), var_at s r (p r) d (hs r d)]
  rfl

/-- The block's gates, as far as the inputs go, are the rule's. -/
theorem input_at (w₀₀ w₀₁ w₀₂ w₀₃ w₁₀ w₁₁ w₁₂ w₁₃ w₂₀ w₂₁ w₂₂ w₂₃ w₃₀ w₃₁ w₃₂ w₃₃ b₀ b₁ b₂ b₃ : Vec Ideal S1x64 .f32)
    (W : Vec Ideal S256x384 .f32) (c : Vec Ideal S1x384 .f32) (g : Fin 384)
    (w : Fin 64 → Fin 4 → Fin 4 → EReal) (b : Fin 64 → Fin 4 → EReal) (V : Fin 384 → Fin 256 → EReal)
    (hmu : ∀ d, mu (ix2 r d) = Rule.mean p d) (hs : ∀ d : Fin 64, s (ix2 r d) = p ⟨64 + d.val, by omega⟩)
    (h₀ : ∀ d, w₀₀ (ix2 0 d) = w d 0 0 ∧ w₁₀ (ix2 0 d) = w d 1 0 ∧ w₂₀ (ix2 0 d) = w d 2 0 ∧ w₃₀ (ix2 0 d) = w d 3 0 ∧ b₀ (ix2 0 d) = b d 0)
    (h₁ : ∀ d, w₀₁ (ix2 0 d) = w d 0 1 ∧ w₁₁ (ix2 0 d) = w d 1 1 ∧ w₂₁ (ix2 0 d) = w d 2 1 ∧ w₃₁ (ix2 0 d) = w d 3 1 ∧ b₁ (ix2 0 d) = b d 1)
    (h₂ : ∀ d, w₀₂ (ix2 0 d) = w d 0 2 ∧ w₁₂ (ix2 0 d) = w d 1 2 ∧ w₂₂ (ix2 0 d) = w d 2 2 ∧ w₃₂ (ix2 0 d) = w d 3 2 ∧ b₂ (ix2 0 d) = b d 2)
    (h₃ : ∀ d, w₀₃ (ix2 0 d) = w d 0 3 ∧ w₁₃ (ix2 0 d) = w d 1 3 ∧ w₂₃ (ix2 0 d) = w d 2 3 ∧ w₃₃ (ix2 0 d) = w d 3 3 ∧ b₃ (ix2 0 d) = b d 3)
    (hW : ∀ (o : Fin 4) (d : Fin 64), W (ix2 ⟨64 * o.val + d.val, by omega⟩ g) = V g ⟨4 * d.val + o.val, by omega⟩) :
    k0_pay13 x k mu (k0_pay2 s) (k0_pay3 x mu s)
        (k0_pay7 k mu (k0_pay2 s) (k0_pay3 x mu s) (k0_pay5 x w₀₀) (k0_pay6 w₁₀) w₂₀ w₃₀ b₀)
        (k0_pay10 k (k0_pay8 x mu (k0_pay2 s) w₀₁ w₁₁ w₂₁) (k0_pay9 (k0_pay3 x mu s) w₃₁) b₁)
        (k0_pay11 x k mu (k0_pay2 s) (k0_pay3 x mu s) w₀₂ w₁₂ w₂₂ w₃₂ b₂)
        (k0_pay12 w₀₃) w₁₃ w₂₃ w₃₃ b₃ W c (ix2 r g)
      = Rule.gate (Rule.input (fun d => x (ix2 r d)) (fun d => k (ix2 r d)) p w b) V (fun g => c (ix2 0 g)) g := by
  have e : ∀ d, k0_pay3 (F := Ideal) x mu s (ix2 r d) = Rule.err (fun d => x (ix2 r d)) p d := fun d => err_at x mu s r p d (hmu d) (hs d)
  rw [side_by_side]
  unfold Rule.gate Rule.input
  rw [Rule.sum_input]
  refine congrArg (· + c (ix2 0 g)) (congrArg₂ (· + ·) (Finset.sum_congr rfl fun d _ => ?_) (congrArg₂ (· + ·) (Finset.sum_congr rfl fun d _ => ?_)
    (congrArg₂ (· + ·) (Finset.sum_congr rfl fun d _ => ?_) (Finset.sum_congr rfl fun d _ => ?_))))
  · obtain ⟨a₀, a₁, a₂, a₃, a₄⟩ := h₀ d
    rw [first_at, e, var_at s r p d (hs d), hmu, a₀, a₁, a₂, a₃, a₄]
    exact congrArg (_ * ·) ((congrArg (fun q => W (ix2 q g)) (Fin.ext (by simp))).trans (hW 0 d))
  · obtain ⟨a₀, a₁, a₂, a₃, a₄⟩ := h₁ d
    rw [second_at, e, var_at s r p d (hs d), hmu, a₀, a₁, a₂, a₃, a₄]
    exact congrArg (_ * ·) (hW 1 d)
  · obtain ⟨a₀, a₁, a₂, a₃, a₄⟩ := h₂ d
    rw [third_at, e, var_at s r p d (hs d), hmu, a₀, a₁, a₂, a₃, a₄]
    exact congrArg (_ * ·) (hW 2 d)
  · obtain ⟨a₀, a₁, a₂, a₃, a₄⟩ := h₃ d
    rw [repeated_at, e, var_at s r p d (hs d), hmu, a₀, a₁, a₂, a₃, a₄]
    exact congrArg (_ * ·) (hW 3 d)
end

/-- The block's new states, from what the inputs bring to the gates. -/
theorem state_at (h : Vec Ideal S1024x128 .f32) (gi : FVec Ideal S1024x384 .f32) (U : Vec Ideal S128x384 .f32) (b : Vec Ideal S1x384 .f32)
    (r : Fin 1024) (j : Fin 128) (gi' : Fin 384 → EReal) (U' : Fin 384 → Fin 128 → EReal) (b' : Fin 384 → EReal)
    (hgi : ∀ g, gi (ix2 r g) = gi' g) (hU : ∀ g q, U (ix2 q g) = U' g q) (hb : ∀ g, b (ix2 0 g) = b' g) :
    k0_pay1 h gi (k0_pay14 h U) (k0_pay15 b) (ix2 r j)
      = Rule.cell gi' (Rule.gate (fun q => h (ix2 r q)) U' b') (fun q => h (ix2 r q)) j := by
  pointwise [k0_pay1, k0_pay14, k0_pay15]
  simp only [hgi, hU, hb]
  rfl

/-- The block's new states are the rule's, once every block is known at the places the row reads. -/
theorem whole_at (h : Vec Ideal S1024x128 .f32) (x k mu s : FVec Ideal S1024x64 .f32)
    (w₀₀ w₀₁ w₀₂ w₀₃ w₁₀ w₁₁ w₁₂ w₁₃ w₂₀ w₂₁ w₂₂ w₂₃ w₃₀ w₃₁ w₃₂ w₃₃ b₀ b₁ b₂ b₃ : Vec Ideal S1x64 .f32)
    (W : Vec Ideal S256x384 .f32) (c : Vec Ideal S1x384 .f32) (U : Vec Ideal S128x384 .f32) (a : Vec Ideal S1x384 .f32)
    (r : Fin 1024) (j : Fin 128)
    (h' p : Fin 128 → EReal) (x' k' : Fin 64 → EReal) (w : Fin 64 → Fin 4 → Fin 4 → EReal) (b : Fin 64 → Fin 4 → EReal)
    (W' : Fin 384 → Fin 256 → EReal) (c' : Fin 384 → EReal) (U' : Fin 384 → Fin 128 → EReal) (a' : Fin 384 → EReal)
    (hh : ∀ q, h (ix2 r q) = h' q) (hx : ∀ d, x (ix2 r d) = x' d) (hk : ∀ d, k (ix2 r d) = k' d)
    (hmu : ∀ d, mu (ix2 r d) = Rule.mean p d) (hs : ∀ d : Fin 64, s (ix2 r d) = p ⟨64 + d.val, by omega⟩)
    (h₀ : ∀ d, w₀₀ (ix2 0 d) = w d 0 0 ∧ w₁₀ (ix2 0 d) = w d 1 0 ∧ w₂₀ (ix2 0 d) = w d 2 0 ∧ w₃₀ (ix2 0 d) = w d 3 0 ∧ b₀ (ix2 0 d) = b d 0)
    (h₁ : ∀ d, w₀₁ (ix2 0 d) = w d 0 1 ∧ w₁₁ (ix2 0 d) = w d 1 1 ∧ w₂₁ (ix2 0 d) = w d 2 1 ∧ w₃₁ (ix2 0 d) = w d 3 1 ∧ b₁ (ix2 0 d) = b d 1)
    (h₂ : ∀ d, w₀₂ (ix2 0 d) = w d 0 2 ∧ w₁₂ (ix2 0 d) = w d 1 2 ∧ w₂₂ (ix2 0 d) = w d 2 2 ∧ w₃₂ (ix2 0 d) = w d 3 2 ∧ b₂ (ix2 0 d) = b d 2)
    (h₃ : ∀ d, w₀₃ (ix2 0 d) = w d 0 3 ∧ w₁₃ (ix2 0 d) = w d 1 3 ∧ w₂₃ (ix2 0 d) = w d 2 3 ∧ w₃₃ (ix2 0 d) = w d 3 3 ∧ b₃ (ix2 0 d) = b d 3)
    (hW : ∀ (o : Fin 4) (d : Fin 64) (g : Fin 384), W (ix2 ⟨64 * o.val + d.val, by omega⟩ g) = W' g ⟨4 * d.val + o.val, by omega⟩)
    (hc : ∀ g, c (ix2 0 g) = c' g) (hU : ∀ g q, U (ix2 q g) = U' g q) (ha : ∀ g, a (ix2 0 g) = a' g) :
    k0_pay1 h
        (k0_pay13 x k mu (k0_pay2 s) (k0_pay3 x mu s)
          (k0_pay7 k mu (k0_pay2 s) (k0_pay3 x mu s) (k0_pay5 x w₀₀) (k0_pay6 w₁₀) w₂₀ w₃₀ b₀)
          (k0_pay10 k (k0_pay8 x mu (k0_pay2 s) w₀₁ w₁₁ w₂₁) (k0_pay9 (k0_pay3 x mu s) w₃₁) b₁)
          (k0_pay11 x k mu (k0_pay2 s) (k0_pay3 x mu s) w₀₂ w₁₂ w₂₂ w₃₂ b₂)
          (k0_pay12 w₀₃) w₁₃ w₂₃ w₃₃ b₃ W c)
        (k0_pay14 h U) (k0_pay15 a) (ix2 r j)
      = Rule.cell (Rule.gate (Rule.input x' k' p w b) W' c') (Rule.gate h' U' a') h' j := by
  obtain rfl : (fun q => h (ix2 r q)) = h' := funext hh
  obtain rfl : (fun d => x (ix2 r d)) = x' := funext hx
  obtain rfl : (fun d => k (ix2 r d)) = k' := funext hk
  obtain rfl : (fun g => c (ix2 0 g)) = c' := funext hc
  exact state_at h _ U a r j _ U' a'
    (fun g => input_at x k mu s r p w₀₀ w₀₁ w₀₂ w₀₃ w₁₀ w₁₁ w₁₂ w₁₃ w₂₀ w₂₁ w₂₂ w₂₃ w₃₀ w₃₁ w₃₂ w₃₃ b₀ b₁ b₂ b₃ W c g w b W'
      hmu hs h₀ h₁ h₂ h₃ fun o d => hW o d g) hU ha

end Cert.KernelIdeal.Block
-- ==== Proof.Read.lean ====
module

public import proofs.«01_k».proof.Proof.Gen.KernelIdeal.Frame
public import Idealize.ShloMosaic.Lib.Claim
public import Idealize.ShloMosaic.Lib.Pipeline.ValueKit

@[expose] public section

set_option maxRecDepth 16384

/-!
# What the blocks hold when the body reads them

Point `t` handles rows `1024 * t … 1024 * t + 1023`. The table, the parameters, the observations and the mask arrive by
these rows; the weights arrive whole at every point, in the order the host laid them.
-/

noncomputable section

namespace Cert.KernelIdeal.Read

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The blocks each point takes. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0]
    ∧ win0_11.index t = ![0, 0] :=
  (by decide +kernel : ∀ t : Fin grid0.N, _)

/-- There are four points. -/
theorem lt_four (t : Fin cfg0.N) : t.val < 4 := t.isLt.trans_le (le_of_eq N_0)

/-- Row `r` of point `t`, as a row of the observations. -/
def row (t : Fin cfg0.N) (r : Fin 1024) : Fin 4096 := ⟨1024 * t.val + r.val, by have := lt_four t; omega⟩

/-- The table, by rows. -/
theorem table_at (t : Fin cfg0.N) (r : Fin 1024) (j : Fin 128) :
    (iblk m c 0 t : Vec Ideal S1024x128 .f32) (ix2 r j)
      = (m ((c.tc : Thread nD τ).loc main_arg0) : Vec Ideal S16384x128 .f32) (ix2 ⟨(row t r).val, by have := (row t r).isLt; omega⟩ j) := by
  unfold row
  blk_simp [iblk]
  entry_read
  blk_ext [idx t]

/-- The parameters, by rows. -/
theorem params_at (t : Fin cfg0.N) (r : Fin 1024) (j : Fin 128) :
    (iblk m c 1 t : Vec Ideal S1024x128 .f32) (ix2 r j)
      = (m ((c.tc : Thread nD τ).loc main_arg1) : Vec Ideal S16384x128 .f32) (ix2 ⟨(row t r).val, by have := (row t r).isLt; omega⟩ j) := by
  unfold row
  blk_ext [iblk, V, idx t]

/-- The observations, by rows. -/
theorem obs_at (t : Fin cfg0.N) (r : Fin 1024) (d : Fin 64) :
    (iblk m c 2 t : Vec Ideal S1024x64 .f32) (ix2 r d) = (m ((c.tc : Thread nD τ).loc main_arg2) : Vec Ideal S4096x64 .f32) (ix2 (row t r) d) := by
  unfold row
  blk_ext [iblk, V, idx t]

/-- The mask, by rows. -/
theorem mask_at (t : Fin cfg0.N) (r : Fin 1024) (d : Fin 64) :
    (iblk m c 3 t : Vec Ideal S1024x64 .f32) (ix2 r d) = (m ((c.tc : Thread nD τ).loc main_arg3) : Vec Ideal S4096x64 .f32) (ix2 (row t r) d) := by
  unfold row
  blk_ext [iblk, V, idx t]

/-! ## The weights, as the host lays them -/

/-- The preparation's weights: features first, columns last. -/
theorem weight_laid : (V m c main_v1 : Vec Ideal S16x64 .f32)
    = shapeCast S16x64 (transpose S4x4x64 [1, 2, 0] (m ((c.tc : Thread nD τ).loc main_arg5) : Vec Ideal S64x4x4 .f32) transposes_S64x4x4_S4x4x64_1_2_0)
        shapeCasts_S4x4x64_S16x64 := by
  show StableHlo.after hostOps0 _ _ = _
  after_results
  rfl

/-- The preparation's bias, turned. -/
theorem bias_laid : (V m c main_v2 : Vec Ideal S4x64 .f32)
    = transpose S4x64 [1, 0] (m ((c.tc : Thread nD τ).loc main_arg6) : Vec Ideal S64x4 .f32) transposes_S64x4_S4x64_1_0 := by
  show StableHlo.after hostOps0 _ _ = _
  after_results

/-- The gates' input weights: outputs first, then columns, then gates. -/
theorem inputWeight_laid : (V m c main_v5 : Vec Ideal S256x384 .f32)
    = shapeCast S256x384 (transpose S4x64x384 [2, 1, 0]
        (shapeCast S384x64x4 (m ((c.tc : Thread nD τ).loc main_arg7) : Vec Ideal S384x256 .f32) shapeCasts_S384x256_S384x64x4)
        transposes_S384x64x4_S4x64x384_2_1_0) shapeCasts_S4x64x384_S256x384 := by
  show StableHlo.after hostOps0 _ _ = _
  after_results
  rfl

/-- The gates' state weights, turned. -/
theorem stateWeight_laid : (V m c main_v6 : Vec Ideal S128x384 .f32)
    = transpose S128x384 [1, 0] (m ((c.tc : Thread nD τ).loc main_arg8) : Vec Ideal S384x128 .f32) transposes_S384x128_S128x384_1_0 := by
  show StableHlo.after hostOps0 _ _ = _
  after_results

/-- The gates' input bias, as one row. -/
theorem inputBias_laid : (V m c main_v7 : Vec Ideal S1x384 .f32)
    = shapeCast S1x384 (m ((c.tc : Thread nD τ).loc main_arg9) : Vec Ideal S384 .f32) shapeCasts_S384_S1x384 := by
  show StableHlo.after hostOps0 _ _ = _
  after_results
  rfl

/-- The gates' state bias, as one row. -/
theorem stateBias_laid : (V m c main_v8 : Vec Ideal S1x384 .f32)
    = shapeCast S1x384 (m ((c.tc : Thread nD τ).loc main_arg10) : Vec Ideal S384 .f32) shapeCasts_S384_S1x384 := by
  show StableHlo.after hostOps0 _ _ = _
  after_results
  rfl

/-- Row `4 * e + o` of the preparation's weights is output `o`'s weight of feature `e`. -/
theorem weight_at (t : Fin cfg0.N) (d : Fin 64) (e o : Fin 4) :
    (iblk m c 4 t : Vec Ideal S16x64 .f32) (ix2 ⟨4 * e.val + o.val, by omega⟩ d) = (m ((c.tc : Thread nD τ).loc main_arg5) : Vec Ideal S64x4x4 .f32) (ix3 d e o) := by
  refine (show _ = (V m c main_v1 : Vec Ideal S16x64 .f32) (ix2 ⟨4 * e.val + o.val, by omega⟩ d) by blk_ext [iblk, idx t]).trans ?_
  rw [weight_laid]
  pointwise

/-- Row `o` of the preparation's bias is output `o`'s. -/
theorem bias_at (t : Fin cfg0.N) (d : Fin 64) (o : Fin 4) :
    (iblk m c 5 t : Vec Ideal S4x64 .f32) (ix2 o d) = (m ((c.tc : Thread nD τ).loc main_arg6) : Vec Ideal S64x4 .f32) (ix2 d o) := by
  refine (show _ = (V m c main_v2 : Vec Ideal S4x64 .f32) (ix2 o d) by blk_ext [iblk, idx t]).trans ?_
  rw [bias_laid]
  pointwise

/-- Row `64 * o + d` of the gates' input weights belongs to output `o` of column `d`. -/
theorem inputWeight_at (t : Fin cfg0.N) (d : Fin 64) (o : Fin 4) (g : Fin 384) :
    (iblk m c 6 t : Vec Ideal S256x384 .f32) (ix2 ⟨64 * o.val + d.val, by omega⟩ g) = (m ((c.tc : Thread nD τ).loc main_arg7) : Vec Ideal S384x256 .f32) (ix2 g ⟨4 * d.val + o.val, by omega⟩) := by
  refine (show _ = (V m c main_v5 : Vec Ideal S256x384 .f32) (ix2 ⟨64 * o.val + d.val, by omega⟩ g) by blk_ext [iblk, idx t]).trans ?_
  rw [inputWeight_laid]
  pointwise
  blk_ext

/-- The gates' state weights, turned. -/
theorem stateWeight_at (t : Fin cfg0.N) (q : Fin 128) (g : Fin 384) :
    (iblk m c 7 t : Vec Ideal S128x384 .f32) (ix2 q g) = (m ((c.tc : Thread nD τ).loc main_arg8) : Vec Ideal S384x128 .f32) (ix2 g q) := by
  refine (show _ = (V m c main_v6 : Vec Ideal S128x384 .f32) (ix2 q g) by blk_ext [iblk, idx t]).trans ?_
  rw [stateWeight_laid]
  pointwise

/-- The gates' input bias. -/
theorem inputBias_at (t : Fin cfg0.N) (g : Fin 384) :
    (iblk m c 8 t : Vec Ideal S1x384 .f32) (ix2 0 g) = (m ((c.tc : Thread nD τ).loc main_arg9) : Vec Ideal S384 .f32) (ix1 g) := by
  refine (show _ = (V m c main_v7 : Vec Ideal S1x384 .f32) (ix2 0 g) by blk_ext [iblk, idx t]).trans ?_
  rw [inputBias_laid]
  pointwise

/-- The gates' state bias. -/
theorem stateBias_at (t : Fin cfg0.N) (g : Fin 384) :
    (iblk m c 9 t : Vec Ideal S1x384 .f32) (ix2 0 g) = (m ((c.tc : Thread nD τ).loc main_arg10) : Vec Ideal S384 .f32) (ix1 g) := by
  refine (show _ = (V m c main_v8 : Vec Ideal S1x384 .f32) (ix2 0 g) by blk_ext [iblk, idx t]).trans ?_
  rw [stateBias_laid]
  pointwise

end Cert.KernelIdeal.Read
-- ==== Proof.Layers.lean ====
module

public import proofs.«01_k».proof.Proof.Gen.ReferenceIdeal.Run
public import Idealize.ShloMosaic.Lib.Pointwise
public import Idealize.ShloMosaic.Lib.Tactic.CleanTypes

@[expose] public section

set_option maxRecDepth 16384

/-!
# The reference, step by step

The reference computes two results. This module names the intermediate arrays of that computation, each as a
function of the arrays it is made from, and states that the two results of the run are these steps put together.
-/

noncomputable section

namespace Cert.ReferenceIdeal.Layers

open Cert.ReferenceIdeal Cert.ReferenceIdeal.Gen Cert.ReferenceIdeal.Value Idealize.ShloMosaic Idealize.ShloMosaic.TcCoe Idealize.SL.Sem

/-- The row numbers, a negative one counted from the end of the table. -/
def wrapped (i : IVec S4096 32) : IVec S4096x1 32 :=
  broadcastInDim S4096x1 ![0] bcast_S4096_S4096x1_0 (select (cmpi .slt i (broadcastInDim S4096 ![] bcast_S_S4096 (constantI S_ 32 0#32))) (addi i (broadcastInDim S4096 ![] bcast_S_S4096 (constantI S_ 32 16384#32))) i)

/-- For every observed row, the bit that says its number is one of the table's rows. -/
def inRange (i : IVec S4096 32) : IVec S4096 1 :=
  Host.reduce IntOp.andi (andi (cmpi .sge (wrapped i) (broadcastInDim S4096x1 ![] bcast_S_S4096x1 (constantI S_ 32 0#32))) (cmpi .sle (wrapped i) (broadcastInDim S4096x1 ![0, 1] bcast_S1x1_S4096x1_0_1 (broadcastInDim S1x1 ![1] bcast_S1_S1x1_1 (constantI S1 32 16383#32))))) (constantI S_ 1 1#1) reducesTo_S4096x1_S4096_d1 h_S_

/-- The rows of a table that the row numbers name. -/
def taken (x : FVec Ideal S16384x128 .f32) (i : IVec S4096 32) : FVec Ideal S4096x128 .f32 :=
  select (broadcastInDim S4096x128 ![0] bcast_S4096_S4096x128_0 (inRange i)) (Host.gather gather_S16384x128_S4096x1_S4096x128_1_0_n_n_0_1_1128 x (wrapped i)) (broadcastInDim S4096x128 ![] bcast_S_S4096x128 (constant S_ .f32 0x7FC00000#32))

/-- The means: the first 64 columns of the taken parameters. -/
def mean (p : FVec Ideal S4096x128 .f32) : FVec Ideal S4096x64 .f32 :=
  extractStridedSlice S4096x64 ![0, 0] p slices_S4096x128_S4096x64_0_0

/-- The variances: the absolute values of the last 64 columns, and the small constant. -/
def var (p : FVec Ideal S4096x128 .f32) : FVec Ideal S4096x64 .f32 :=
  addf (Host.absf (extractStridedSlice S4096x64 ![0, 64] p slices_S4096x128_S4096x64_0_64)) (broadcastInDim S4096x64 ![] bcast_S_S4096x64 (constant S_ .f32 0x358637BD#32))

/-- The errors: the observations' distances from the means, over the roots of the variances. -/
def err (x : FVec Ideal S4096x64 .f32) (p : FVec Ideal S4096x128 .f32) : FVec Ideal S4096x64 .f32 :=
  Host.divf (subf x (mean p)) (Host.sqrt (var p))

/-- The loss: half the sum of the masked squared errors and logarithms. -/
def loss (x mk : FVec Ideal S4096x64 .f32) (p : FVec Ideal S4096x128 .f32) : FVec Ideal S_ .f32 :=
  mulf (constant S_ .f32 0x3F000000#32) (Host.reduceAdd (mulf (addf (mulf (err x p) (err x p)) (Host.log (var p))) mk) (constant S_ .f32 0x00000000#32) reducesTo_S4096x64_S_d0_1 h_S_)

/-- Four arrays side by side, as a last axis of four. -/
def stacked (a b c d : FVec Ideal S4096x64 .f32) : FVec Ideal S4096x64x4 .f32 :=
  concatenate S4096x64x4 2 [⟨S4096x64x1, broadcastInDim S4096x64x1 ![0, 1] bcast_S4096x64_S4096x64x1_0_1 a⟩, ⟨S4096x64x1, broadcastInDim S4096x64x1 ![0, 1] bcast_S4096x64_S4096x64x1_0_1 b⟩, ⟨S4096x64x1, broadcastInDim S4096x64x1 ![0, 1] bcast_S4096x64_S4096x64x1_0_1 c⟩, ⟨S4096x64x1, broadcastInDim S4096x64x1 ![0, 1] bcast_S4096x64_S4096x64x1_0_1 d⟩] concatenates_S4096x64x1_S4096x64x1_S4096x64x1_S4096x64x1_S4096x64x4_d2

/-- The prepared inputs: each column's four features through that column's own four by four matrix, its bias
    added, negative values cut off, masked, and the four outputs of a column laid out next to each other. -/
def prepared (s : FVec Ideal S4096x64x4 .f32) (mk : FVec Ideal S4096x64 .f32) (w : FVec Ideal S64x4x4 .f32) (b : FVec Ideal S64x4 .f32) :
    FVec Ideal S4096x256 .f32 :=
  shapeCast S4096x256 (transpose S4096x64x4 [1, 2, 0] (mulf (transpose S4x4096x64 [2, 0, 1] (maximumf (addf (shapeCast S4096x64x4 (transpose S4096x64x1x4 [1, 0, 2, 3] (Host.dotGeneral dot_S4096x64x1x4_S64x4x4_S64x4096x1x4_3_1_02_2_1_0 none (broadcastInDim S4096x64x1x4 ![0, 1, 3] bcast_S4096x64x4_S4096x64x1x4_0_1_3 s) w) transposes_S64x4096x1x4_S4096x64x1x4_1_0_2_3) shapeCasts_S4096x64x1x4_S4096x64x4) (broadcastInDim S4096x64x4 ![0, 1, 2] bcast_S1x64x4_S4096x64x4_0_1_2 (broadcastInDim S1x64x4 ![1, 2] bcast_S64x4_S1x64x4_1_2 b))) (broadcastInDim S4096x64x4 ![] bcast_S_S4096x64x4 (constant S_ .f32 0x00000000#32))) transposes_S4096x64x4_S4x4096x64_2_0_1) (broadcastInDim S4x4096x64 ![0, 1, 2] bcast_S1x4096x64_S4x4096x64_0_1_2 (broadcastInDim S1x4096x64 ![1, 2] bcast_S4096x64_S1x4096x64_1_2 mk))) transposes_S4x4096x64_S4096x64x4_1_2_0) shapeCasts_S4096x64x4_S4096x256

/-- What the inputs bring to the three gates. -/
def fromInput (u : FVec Ideal S4096x256 .f32) (w : FVec Ideal S384x256 .f32) (b : FVec Ideal S384 .f32) : FVec Ideal S4096x384 .f32 :=
  addf (Host.dotGeneral dot_S4096x256_S256x384_S4096x384_1_0_0_1_n_n none u (transpose S256x384 [1, 0] w transposes_S384x256_S256x384_1_0)) (broadcastInDim S4096x384 ![0, 1] bcast_S1x384_S4096x384_0_1 (broadcastInDim S1x384 ![1] bcast_S384_S1x384_1 b))

/-- What the old states bring to the three gates. -/
def fromState (h : FVec Ideal S4096x128 .f32) (w : FVec Ideal S384x128 .f32) (b : FVec Ideal S384 .f32) : FVec Ideal S4096x384 .f32 :=
  addf (Host.dotGeneral dot_S4096x128_S128x384_S4096x384_1_0_0_1_n_n none h (transpose S128x384 [1, 0] w transposes_S384x128_S128x384_1_0)) (broadcastInDim S4096x384 ![0, 1] bcast_S1x384_S4096x384_0_1 (broadcastInDim S1x384 ![1] bcast_S384_S1x384_1 b))

/-- The array of ones. -/
def ones : FVec Ideal S4096x128 .f32 := broadcastInDim S4096x128 ![] bcast_S_S4096x128 (constant S_ .f32 0x3F800000#32)

/-- The sigmoid, as one over one and the exponential of the negative. -/
def sigm (x : FVec Ideal S4096x128 .f32) : FVec Ideal S4096x128 .f32 := Host.divf ones (addf ones (Host.exp (Host.negf x)))

/-- The new states, out of what inputs and old states bring to the gates. -/
def cell (gi gh : FVec Ideal S4096x384 .f32) (h : FVec Ideal S4096x128 .f32) : FVec Ideal S4096x128 .f32 :=
  addf (mulf (subf ones (sigm (addf (extractStridedSlice S4096x128 ![0, 128] gi slices_S4096x384_S4096x128_0_128) (extractStridedSlice S4096x128 ![0, 128] gh slices_S4096x384_S4096x128_0_128))))
    (Host.tanh (addf (extractStridedSlice S4096x128 ![0, 256] gi slices_S4096x384_S4096x128_0_256)
      (mulf (sigm (addf (extractStridedSlice S4096x128 ![0, 0] gi slices_S4096x384_S4096x128_0_0) (extractStridedSlice S4096x128 ![0, 0] gh slices_S4096x384_S4096x128_0_0)))
        (extractStridedSlice S4096x128 ![0, 256] gh slices_S4096x384_S4096x128_0_256)))))
    (mulf (sigm (addf (extractStridedSlice S4096x128 ![0, 128] gi slices_S4096x384_S4096x128_0_128) (extractStridedSlice S4096x128 ![0, 128] gh slices_S4096x384_S4096x128_0_128))) h)

/-- The table with the named rows replaced. -/
def placed (x : FVec Ideal S16384x128 .f32) (i : IVec S4096 32) (u : FVec Ideal S4096x128 .f32) : FVec Ideal S16384x128 .f32 :=
  Host.scatter scatter_S16384x128_S4096x1_S4096x128_1_0_0_1 (fun _ b => b) x (wrapped i) u

variable (m : (ℓ : Loc nD τ sig) → Buf (Elt Ideal) ℓ) (c : Dev nD)

/-- The run's loss is the loss of the taken parameters. -/
theorem loss_eq : res_out1 m c = loss (m ((c.tc : Thread nD τ).loc main_arg2)) (m ((c.tc : Thread nD τ).loc main_arg3))
    (taken (m ((c.tc : Thread nD τ).loc main_arg1)) (m ((c.tc : Thread nD τ).loc main_arg4))) := rfl

/-- The run's table is the old one with the cell's new states placed at the named rows. -/
theorem table_eq : res_out0 m c = placed (m ((c.tc : Thread nD τ).loc main_arg0)) (m ((c.tc : Thread nD τ).loc main_arg4))
    (cell
      (fromInput (prepared
        (stacked (m ((c.tc : Thread nD τ).loc main_arg2))
          (mean (taken (m ((c.tc : Thread nD τ).loc main_arg1)) (m ((c.tc : Thread nD τ).loc main_arg4))))
          (var (taken (m ((c.tc : Thread nD τ).loc main_arg1)) (m ((c.tc : Thread nD τ).loc main_arg4))))
          (err (m ((c.tc : Thread nD τ).loc main_arg2)) (taken (m ((c.tc : Thread nD τ).loc main_arg1)) (m ((c.tc : Thread nD τ).loc main_arg4)))))
        (m ((c.tc : Thread nD τ).loc main_arg3)) (m ((c.tc : Thread nD τ).loc main_arg5)) (m ((c.tc : Thread nD τ).loc main_arg6)))
        (m ((c.tc : Thread nD τ).loc main_arg7)) (m ((c.tc : Thread nD τ).loc main_arg9)))
      (fromState (taken (m ((c.tc : Thread nD τ).loc main_arg0)) (m ((c.tc : Thread nD τ).loc main_arg4)))
        (m ((c.tc : Thread nD τ).loc main_arg8)) (m ((c.tc : Thread nD τ).loc main_arg10)))
      (taken (m ((c.tc : Thread nD τ).loc main_arg0)) (m ((c.tc : Thread nD τ).loc main_arg4)))) := rfl

end Cert.ReferenceIdeal.Layers
-- ==== Proof.Rows.lean ====
module

public import proofs.«01_k».proof.Proof.Layers
public import Idealize.ShloMosaic.Lib.Pointwise
public import Idealize.ShloMosaic.Lib.Tactic.WordOmega
public import Idealize.ShloMosaic.Lib.Routing.Ops
public import Idealize.ShloMosaic.Lib.Routing.OpsSet
public import Idealize.ShloMosaic.Lib.Routing.OpsPair

@[expose] public section

set_option maxRecDepth 16384

/-!
# Taking and placing the first rows

Where the row numbers are 0, 1, …, 4095 in this order, the taken rows are the table's first 4096 rows, and placing
4096 rows replaces exactly these.
-/

noncomputable section

namespace Cert.ReferenceIdeal.Layers

open Cert.ReferenceIdeal Cert.ReferenceIdeal.Gen Cert.ReferenceIdeal.Value Idealize.ShloMosaic Idealize.ShloMosaic.TcCoe Idealize.SL.Sem

/-- The row numbers are 0, 1, 2, … in this order. -/
def InOrder (i : IVec S4096 32) : Prop := ∀ r : Fin 4096, i (ix1 r) = BitVec.ofNat 32 r.val

variable {i : IVec S4096 32}

/-- A small number's word, read as a natural number. -/
theorem toNat_row (r : Fin 4096) : (BitVec.ofNat 32 r.val).toNat = r.val := by
  rw [BitVec.toNat_ofNat]; omega

/-- Row numbers in order are not changed by the wrap. -/
theorem wrapped_at (hi : InOrder i) (r : Fin 4096) (z : Fin 1) : wrapped i (ix2 r z) = BitVec.ofNat 32 r.val := by
  pointwise [wrapped]
  rw [hi r]
  exact Routing.wrap_of_lt _ _ (by rw [toNat_row]; omega)

/-- A number from 0 to 4095 names a row of the table. -/
theorem range_bit (r : Fin 4096) :
    IntOp.andi (IntOp.cmpi .sge (BitVec.ofNat 32 r.val) 0#32) (IntOp.cmpi .sle (BitVec.ofNat 32 r.val) 16383#32) = 1#1 := by
  have h := toNat_row r
  have hr := r.isLt
  generalize BitVec.ofNat 32 r.val = w at h
  have : w.toInt = r.val := by rw [BitVec.toInt_eq_toNat_of_lt (by omega), h]
  have h1 : IntOp.cmpi .sge w 0#32 = 1#1 := by
    show BitVec.ofBool (decide ((0#32).toInt ≤ w.toInt)) = 1#1
    rw [decide_eq_true (by rw [this]; exact Int.natCast_nonneg _)]; rfl
  have h2 : IntOp.cmpi .sle w 16383#32 = 1#1 := by
    show BitVec.ofBool (decide (w.toInt ≤ (16383#32).toInt)) = 1#1
    rw [decide_eq_true (by rw [this, show (16383#32).toInt = 16383 from by decide]; omega)]; rfl
  rw [h1, h2]; rfl

/-- So every row number is in range. -/
theorem inRange_at (hi : InOrder i) (r : Fin 4096) : inRange i (ix1 r) = 1#1 := by
  pointwise [inRange]
  rw [Finset.univ_unique, Finset.fold_singleton, wrapped_at hi r, range_bit r]
  rfl

/-- The taken rows are the table's first rows. -/
theorem taken_at (hi : InOrder i) (x : FVec Ideal S16384x128 .f32) (r : Fin 4096) (j : Fin 128) :
    taken x i (ix2 r j) = x (ix2 ⟨r.val, by omega⟩ j) := by
  pointwise [taken]
  rw [inRange_at hi r]
  have h := Routing.gather_row gather_S16384x128_S4096x1_S4096x128_1_0_n_n_0_1_1128 rfl rfl rfl rfl rfl x (wrapped i) r j ⟨r.val, by omega⟩
    ((congrArg (wrapped i) (ix2_eq_valueIdx r (0 : Fin 1)).symm).trans (wrapped_at hi r 0)) (by norm_num)
  simp only [← ix2_eq_valueIdx] at h
  exact h

/-- Update `(r, j)` lands at `(a, b)` exactly when `a` is `r` and `b` is `j`. -/
theorem lands (hi : InOrder i) (r : Fin 4096) (j : Fin 128) (a : Fin 16384) (b : Fin 128) :
    scatter_S16384x128_S4096x1_S4096x128_1_0_0_1.resultIdx? (ix2 r j) (wrapped i) = some (ix2 a b) ↔ r.val = a.val ∧ j.val = b.val := by
  have hs0 : scatter_S16384x128_S4096x1_S4096x128_1_0_0_1.start (ix2 r j) (wrapped i) 0 = (r.val : Int) := by
    have h : scatter_S16384x128_S4096x1_S4096x128_1_0_0_1.siIdx (ix2 r j) ⟨0, by decide⟩ = ix2 r (0 : Fin 1) := by
      funext b'
      match b' with
      | ⟨0, _⟩ => rfl
      | ⟨1, _⟩ => rfl
    have e : scatter_S16384x128_S4096x1_S4096x128_1_0_0_1.start (ix2 r j) (wrapped i) 0
        = (wrapped i (scatter_S16384x128_S4096x1_S4096x128_1_0_0_1.siIdx (ix2 r j) ⟨0, by decide⟩)).toInt := rfl
    rw [e, h, wrapped_at hi r 0, BitVec.toInt_eq_toNat_of_lt (by rw [toNat_row]; omega), toNat_row]
  have hs1 : scatter_S16384x128_S4096x1_S4096x128_1_0_0_1.start (ix2 r j) (wrapped i) 1 = 0 := rfl
  have hw0 : scatter_S16384x128_S4096x1_S4096x128_1_0_0_1.window (ix2 r j) 0 = 0 := rfl
  have hw1 : scatter_S16384x128_S4096x1_S4096x128_1_0_0_1.window (ix2 r j) 1 = j.val := rfl
  rw [ix2_eq_valueIdx a b]
  refine (Routing.resultIdx?_ix2 scatter_S16384x128_S4096x1_S4096x128_1_0_0_1 (ix2 r j) (wrapped i) a b).trans ?_
  rw [hs0, hs1, hw0, hw1]
  omega

/-- The first 4096 rows of the new table are the placed ones. -/
theorem placed_row (hi : InOrder i) (x : FVec Ideal S16384x128 .f32) (u : FVec Ideal S4096x128 .f32) (a : Fin 16384) (b : Fin 128)
    (ha : a.val < 4096) : placed x i u (ix2 a b) = u (ix2 ⟨a.val, ha⟩ b) := by
  unfold placed
  refine Routing.scatter_set_hit _ x (wrapped i) u (ix2 a b) _ (fun k hk => ?_) (ix2 ⟨a.val, ha⟩ b) ((lands hi ⟨a.val, ha⟩ b a b).2 ⟨rfl, rfl⟩)
  obtain ⟨r, j, rfl⟩ : ∃ (r : Fin 4096) (j : Fin 128), k = ix2 r j := ⟨k 0, k 1, eq_ix2 k⟩
  obtain ⟨h0, h1⟩ := (lands hi r j a b).1 hk
  rw [show r = ⟨a.val, ha⟩ from Fin.ext h0, show j = b from Fin.ext h1]

/-- The other rows are the old ones. -/
theorem placed_rest (hi : InOrder i) (x : FVec Ideal S16384x128 .f32) (u : FVec Ideal S4096x128 .f32) (a : Fin 16384) (b : Fin 128)
    (ha : ¬ a.val < 4096) : placed x i u (ix2 a b) = x (ix2 a b) := by
  unfold placed
  refine Routing.scatter_set_miss _ x (wrapped i) u (ix2 a b) fun k hk => ?_
  obtain ⟨r, j, rfl⟩ : ∃ (r : Fin 4096) (j : Fin 128), k = ix2 r j := ⟨k 0, k 1, eq_ix2 k⟩
  have := ((lands hi r j a b).1 hk).1
  omega

end Cert.ReferenceIdeal.Layers
-- ==== Proof.Wanted.lean ====
module

public import proofs.«01_k».proof.Proof.Rows
public import proofs.«01_k».proof.Proof.Rule

@[expose] public section

set_option maxRecDepth 16384

/-!
# What the reference computes

Where the row numbers are in order, the reference's two results are the rule of one row: the loss is half the sum of
all rows' penalties, and row `a` of the new table, below 4096, is the cell's new state of row `a`.
-/

noncomputable section

namespace Cert.ReferenceIdeal.Layers

open Cert.ReferenceIdeal Cert.ReferenceIdeal.Gen Cert.ReferenceIdeal.Value Idealize.ShloMosaic Idealize.ShloMosaic.TcCoe Idealize.SL.Sem

/-- The reference's error is the rule's. -/
theorem err_at (x : FVec Ideal S4096x64 .f32) (p : FVec Ideal S4096x128 .f32) (r : Fin 4096) (d : Fin 64) :
    err x p (ix2 r d) = Rule.err (fun d => x (ix2 r d)) (fun j => p (ix2 r j)) d := by
  pointwise [err, mean, var]
  rfl

/-- The reference's variance is the rule's. -/
theorem var_at (p : FVec Ideal S4096x128 .f32) (r : Fin 4096) (d : Fin 64) :
    var p (ix2 r d) = Rule.var (fun j => p (ix2 r j)) d := by
  pointwise [var]
  rfl

/-- The reference's mean is the rule's. -/
theorem mean_at (p : FVec Ideal S4096x128 .f32) (r : Fin 4096) (d : Fin 64) :
    mean p (ix2 r d) = Rule.mean (fun j => p (ix2 r j)) d := by
  pointwise [mean]
  rfl

/-- The reference's loss is half the sum of the penalties. -/
theorem loss_at (x k : FVec Ideal S4096x64 .f32) (p : FVec Ideal S4096x128 .f32) (j : S_.Idx) :
    loss x k p j = Rule.half * ∑ r : Fin 4096, ∑ d : Fin 64, Rule.penalty (fun d => x (ix2 r d)) (fun d => k (ix2 r d)) (fun j => p (ix2 r j)) d := by
  pointwise [loss]
  refine congrArg (Rule.half * ·) (Finset.sum_congr rfl fun r _ => Finset.sum_congr rfl fun d _ => ?_)
  rw [err_at, var_at]
  rfl

/-- The prepared inputs of any four stacked arrays. -/
theorem prepared_stacked (a₀ a₁ a₂ a₃ k : FVec Ideal S4096x64 .f32) (w : FVec Ideal S64x4x4 .f32) (b : FVec Ideal S64x4 .f32)
    (r : Fin 4096) (q : Fin 256) (d : Fin 64) (o : Fin 4) (hd : d.val = q.val / 4) (ho : o.val = q.val % 4) :
    prepared (stacked a₀ a₁ a₂ a₃) k w b (ix2 r q)
      = max (a₀ (ix2 r d) * w (ix3 d 0 o) + a₁ (ix2 r d) * w (ix3 d 1 o) + a₂ (ix2 r d) * w (ix3 d 2 o) + a₃ (ix2 r d) * w (ix3 d 3 o)
          + b (ix2 d o)) 0 * k (ix2 r d) := by
  obtain rfl : d = ⟨q.val / 4, Nat.div_lt_of_lt_mul q.isLt⟩ := Fin.ext hd
  obtain rfl : o = ⟨q.val % 4, Nat.mod_lt _ (by decide)⟩ := Fin.ext ho
  pointwise [prepared, stacked]
  rw [Fin.sum_univ_four]
  rfl

/-- The reference's prepared inputs are the rule's. -/
theorem prepared_at (x k : FVec Ideal S4096x64 .f32) (p : FVec Ideal S4096x128 .f32) (w : FVec Ideal S64x4x4 .f32) (b : FVec Ideal S64x4 .f32)
    (r : Fin 4096) (q : Fin 256) :
    prepared (stacked x (mean p) (var p) (err x p)) k w b (ix2 r q)
      = Rule.input (fun d => x (ix2 r d)) (fun d => k (ix2 r d)) (fun j => p (ix2 r j)) (fun d e o => w (ix3 d e o)) (fun d o => b (ix2 d o)) q := by
  refine (prepared_stacked x (mean p) (var p) (err x p) k w b r q ⟨q.val / 4, by omega⟩ ⟨q.val % 4, by omega⟩ rfl rfl).trans ?_
  unfold Rule.input Rule.feature
  rw [mean_at, var_at, err_at]

/-- What the inputs bring to the gates, by the rule. -/
theorem fromInput_at (u : FVec Ideal S4096x256 .f32) (w : FVec Ideal S384x256 .f32) (b : FVec Ideal S384 .f32) (r : Fin 4096) (g : Fin 384) :
    fromInput u w b (ix2 r g) = Rule.gate (fun q => u (ix2 r q)) (fun g q => w (ix2 g q)) (fun g => b (ix1 g)) g := by
  pointwise [fromInput]
  rfl

/-- What the old states bring to the gates, by the rule. -/
theorem fromState_at (h : FVec Ideal S4096x128 .f32) (w : FVec Ideal S384x128 .f32) (b : FVec Ideal S384 .f32) (r : Fin 4096) (g : Fin 384) :
    fromState h w b (ix2 r g) = Rule.gate (fun q => h (ix2 r q)) (fun g q => w (ix2 g q)) (fun g => b (ix1 g)) g := by
  pointwise [fromState]
  rfl

/-- The cell's new state, by the rule. -/
theorem cell_at (gi gh : FVec Ideal S4096x384 .f32) (h : FVec Ideal S4096x128 .f32) (r : Fin 4096) (j : Fin 128) :
    cell gi gh h (ix2 r j) = Rule.cell (fun g => gi (ix2 r g)) (fun g => gh (ix2 r g)) (fun q => h (ix2 r q)) j := by
  pointwise [cell, sigm, ones]
  rfl

variable (m : (ℓ : Loc nD τ sig) → Buf (Elt Ideal) ℓ) (c : Dev nD)

/-- Row `r`'s new state at place `j`, from the arrays `h, p, x, k, w, b, W, U, bW, bU`. -/
def newState (h p : FVec Ideal S16384x128 .f32) (x k : FVec Ideal S4096x64 .f32) (w : FVec Ideal S64x4x4 .f32) (b : FVec Ideal S64x4 .f32)
    (W : FVec Ideal S384x256 .f32) (U : FVec Ideal S384x128 .f32) (bW bU : FVec Ideal S384 .f32) (r : Fin 4096) (j : Fin 128) : EReal :=
  Rule.cell
    (Rule.gate (Rule.input (fun d => x (ix2 r d)) (fun d => k (ix2 r d)) (fun j => p (ix2 ⟨r.val, by omega⟩ j)) (fun d e o => w (ix3 d e o)) (fun d o => b (ix2 d o)))
      (fun g q => W (ix2 g q)) (fun g => bW (ix1 g)))
    (Rule.gate (fun q => h (ix2 ⟨r.val, by omega⟩ q)) (fun g q => U (ix2 g q)) (fun g => bU (ix1 g)))
    (fun q => h (ix2 ⟨r.val, by omega⟩ q)) j

/-- The loss, from the arrays `p, x, k`. -/
def wholeLoss (p : FVec Ideal S16384x128 .f32) (x k : FVec Ideal S4096x64 .f32) : EReal :=
  Rule.half * ∑ r : Fin 4096, ∑ d : Fin 64, Rule.penalty (fun d => x (ix2 r d)) (fun d => k (ix2 r d)) (fun j => p (ix2 ⟨r.val, by omega⟩ j)) d

/-- The reference's loss, with the row numbers in order. -/
theorem res_loss (hi : InOrder (m ((c.tc : Thread nD τ).loc main_arg4))) (j : S_.Idx) :
    res_out1 m c j = wholeLoss (m ((c.tc : Thread nD τ).loc main_arg1)) (m ((c.tc : Thread nD τ).loc main_arg2)) (m ((c.tc : Thread nD τ).loc main_arg3)) := by
  rw [loss_eq, loss_at]
  simp only [taken_at hi]
  rfl

/-- The reference's new table, with the row numbers in order. -/
theorem res_table (hi : InOrder (m ((c.tc : Thread nD τ).loc main_arg4))) (a : Fin 16384) (j : Fin 128) :
    res_out0 m c (ix2 a j) =
      if h : a.val < 4096 then
        newState (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9))
          (m ((c.tc : Thread nD τ).loc main_arg10)) ⟨a.val, h⟩ j
      else m ((c.tc : Thread nD τ).loc main_arg0) (ix2 a j) := by
  rw [table_eq]
  split
  · next h =>
    rw [placed_row hi _ _ a j h, cell_at]
    simp only [fromInput_at, fromState_at, prepared_at, taken_at hi]
    rfl
  · next h => exact placed_rest hi _ _ a j h

end Cert.ReferenceIdeal.Layers
-- ==== Proof.Point.lean ====
module

public import proofs.«01_k».proof.Proof.Block
public import proofs.«01_k».proof.Proof.Read
public import proofs.«01_k».proof.Proof.Wanted

@[expose] public section

set_option maxRecDepth 16384

/-!
# What one point leaves

After point `t`, its block of the table holds the new states of the point's rows, and the loss has grown by half the sum
of their penalties.
-/

noncomputable section

namespace Cert.KernelIdeal.Point

open Cert.KernelIdeal Cert.KernelIdeal.Gen Cert.KernelIdeal.Read Idealize.ShloMosaic Idealize.ShloMosaic.TcCoe Idealize.SL.Sem
open Cert.ReferenceIdeal.Layers (newState wholeLoss)
open Idealize.ShloMosaic.Pipeline (Dat)

variable (m : (ℓ : Loc nD τ sig) → Buf (Elt Ideal) ℓ) (c : Dev nD)

/-- The new state of row `r` at place `j`, from the arguments. -/
abbrev state (r : Fin 4096) (j : Fin 128) : EReal :=
  newState (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))
    (m ((c.tc : Thread nD τ).loc main_arg10)) r j

/-- The new states of point `t`'s rows. -/
theorem state_at (t : Fin cfg0.N) (r : Fin 1024) (j : Fin 128) :
    ((outsAt0 m c t.val t.isLt).1 : Vec Ideal S1024x128 .f32) (ix2 r j) = state m c (row t r) j := by
  by_cases h : t.val % 4 = 0
  on_goal 1 => rw [outsAt0_A m c t h]
  on_goal 2 => rw [outsAt0_B m c t h]
  all_goals
    frame_out
    exact Block.whole_at _ _ _ _ _ _ _ _ _ _ _ _ _ _ _ _ _ _ _ _ _ _ _ _ _ _ _ _ _ r j _ _ _ _ _ _ _ _ _ _
      (fun q => table_at m c t r q) (fun d => obs_at m c t r d) (fun d => mask_at m c t r d)
      (fun d => by pointwise; exact params_at m c t r _) (fun d => by pointwise; exact params_at m c t r _)
      (fun d => ⟨by pointwise; exact weight_at m c t d 0 0, by pointwise; exact weight_at m c t d 1 0, by pointwise; exact weight_at m c t d 2 0, by pointwise; exact weight_at m c t d 3 0,
        by pointwise; exact bias_at m c t d 0⟩)
      (fun d => ⟨by pointwise; exact weight_at m c t d 0 1, by pointwise; exact weight_at m c t d 1 1, by pointwise; exact weight_at m c t d 2 1, by pointwise; exact weight_at m c t d 3 1,
        by pointwise; exact bias_at m c t d 1⟩)
      (fun d => ⟨by pointwise; exact weight_at m c t d 0 2, by pointwise; exact weight_at m c t d 1 2, by pointwise; exact weight_at m c t d 2 2, by pointwise; exact weight_at m c t d 3 2,
        by pointwise; exact bias_at m c t d 2⟩)
      (fun d => ⟨by pointwise; exact weight_at m c t d 0 3, by pointwise; exact weight_at m c t d 1 3, by pointwise; exact weight_at m c t d 2 3, by pointwise; exact weight_at m c t d 3 3,
        by pointwise; exact bias_at m c t d 3⟩)
      (fun o d g => inputWeight_at m c t d o g) (fun g => inputBias_at m c t g) (fun g q => stateWeight_at m c t q g)
      (fun g => stateBias_at m c t g)

/-- A row's penalty, from the arguments. -/
def due (r : Fin 4096) : EReal :=
  ∑ d : Fin 64, Rule.penalty (fun d => (m ((c.tc : Thread nD τ).loc main_arg2) : Vec Ideal S4096x64 .f32) (ix2 r d))
    (fun d => (m ((c.tc : Thread nD τ).loc main_arg3) : Vec Ideal S4096x64 .f32) (ix2 r d))
    (fun j => (m ((c.tc : Thread nD τ).loc main_arg1) : Vec Ideal S16384x128 .f32) (ix2 ⟨r.val, by omega⟩ j)) d

/-- The first point's loss: half the sum of its rows' penalties, on top of nothing. -/
theorem loss_first (t : Fin cfg0.N) (h : t.val % 4 = 0) (j : S1x1.Idx) :
    ((outsAt0 m c t.val t.isLt).2 : Vec Ideal S1x1 .f32) j = 0 + Rule.half * ∑ r : Fin 1024, due m c (row t r) := by
  rw [outsAt0_A m c t h]
  frame_out
  refine (Block.loss_at _ _ _ _ _ (fun r j => (m ((c.tc : Thread nD τ).loc main_arg1) : Vec Ideal S16384x128 .f32)
    (ix2 ⟨(row t r).val, by have := (row t r).isLt; omega⟩ j)) (fun r d => by pointwise; exact params_at m c t r _)
    (fun r d => by pointwise; exact params_at m c t r _)).trans ?_
  simp only [obs_at, mask_at]
  exact congrArg (· + _) Ideal.ofBits_zero_f32

/-- A later point's loss: half the sum of its rows' penalties, on top of the loss before it. -/
theorem loss_next (t : Fin cfg0.N) (h : ¬ t.val % 4 = 0) (j : S1x1.Idx) :
    ((outsAt0 m c t.val t.isLt).2 : Vec Ideal S1x1 .f32) j
      = (outsAt0 m c (t.val - 1) (Nat.lt_of_le_of_lt (Nat.sub_le _ _) t.isLt)).2 j + Rule.half * ∑ r : Fin 1024, due m c (row t r) := by
  have hj : j = ix2 0 0 := by blk_ext
  rw [outsAt0_B m c t h]
  frame_out
  refine (Block.loss_at _ _ _ _ _ (fun r j => (m ((c.tc : Thread nD τ).loc main_arg1) : Vec Ideal S16384x128 .f32)
    (ix2 ⟨(row t r).val, by have := (row t r).isLt; omega⟩ j)) (fun r d => by pointwise; exact params_at m c t r _)
    (fun r d => by pointwise; exact params_at m c t r _)).trans ?_
  simp only [obs_at, mask_at]
  refine congrArg (· + _) ?_
  rw [hj]
  pointwise

end Cert.KernelIdeal.Point
-- ==== Proof.Final.lean ====
module

public import proofs.«01_k».proof.Proof.Point

@[expose] public section

set_option maxRecDepth 16384

/-!
# What the arrays hold at the end

The four points write rows `0 … 4095` of the table and leave the others as they came in; the loss, started anew at the
first point, ends as half the sum of all rows' penalties.
-/

noncomputable section

namespace Cert.KernelIdeal.Final

open Cert.KernelIdeal Cert.KernelIdeal.Gen Cert.KernelIdeal.Read Cert.KernelIdeal.Point Idealize.ShloMosaic Idealize.ShloMosaic.TcCoe Idealize.SL.Sem
open Cert.ReferenceIdeal.Layers (newState wholeLoss)
open Idealize.ShloMosaic.Pipeline (Dat)

variable (m : (ℓ : Loc nD τ sig) → Buf (Elt Ideal) ℓ) (c : Dev nD)

/-- The table after the run: new states below row 4096, what came in from there on. -/
def table : Vec Ideal S16384x128 .f32 := fun i =>
  if h : (i 0).val < 4096 then state m c ⟨(i 0).val, h⟩ (i 1) else (m ((c.tc : Thread nD τ).loc main_arg0) : Vec Ideal S16384x128 .f32) i

/-- A row's new state, where the table's row is one of the observed ones. -/
def wanted : Vec Ideal S16384x128 .f32 := fun i =>
  if h : (i 0).val < 4096 then state m c ⟨(i 0).val, h⟩ (i 1) else 0

/-- At an observed row. -/
theorem wanted_at (r : Fin 4096) (j : Fin 128) : wanted m c (ix2 ⟨r.val, by omega⟩ j) = state m c r j := dif_pos r.isLt

/-- The points cover the table's first four blocks. -/
theorem covered : (dats m 0 c).arrAt 10 (cfgs 0).N
    = fun i => if (i 0 : ℕ) < 4096 then wanted m c i else V m c main_v9_0 i := by
  refine (dats m 0 c).arrAt_eq_of_coversWhere 10 (wanted m c) (fun β => β 0 < 4) (by decide +kernel) (fun t hf y => ?_)
    (fun j => by blk_simp [Pipeline.Window.cell_apply]; omega)
  have ht := lt_four t
  idx_vars y
  blk_simp
  rw [after0_10]
  refine (state_at m c t y0 y1).trans ?_
  rw [show (win0_10.blk t).view.emb (ix2 y0 y1) = ix2 ⟨(row t y0).val, by have := (row t y0).isLt; omega⟩ y1 by
    unfold row; blk_ext [idx t]]
  exact (wanted_at m c (row t y0) y1).symm

/-- The table at the end. -/
theorem table_final : (dats m 0 c).arrAt 10 (cfgs 0).N = table m c := by
  rw [covered]
  funext i
  unfold table wanted
  split
  · rfl
  · entry_read
    rfl

/-- The points' halves add up to half of all rows' penalties. -/
theorem parts : ∑ t : Fin cfg0.N, Rule.half * ∑ r : Fin 1024, due m c (row t r) = Rule.half * ∑ r : Fin 4096, due m c r := by
  rw [Rule.half_sum]
  refine congrArg (Rule.half * ·) (Fin.sum_mul_add_congr (fun t r hl => congrArg (due m c) (Fin.ext ?_)) (by rw [show cfg0.N = 4 from N_0]))
  show 1024 * t.val + r.val = t.val * 1024 + r.val
  omega

/-- The loss at the end. -/
theorem loss_final : (dats m 0 c).arrAt 11 (cfgs 0).N
    = fun _ => wholeLoss (m ((c.tc : Thread nD τ).loc main_arg1)) (m ((c.tc : Thread nD τ).loc main_arg2)) (m ((c.tc : Thread nD τ).loc main_arg3)) := by
  refine (dats m 0 c).arrAt_eq_of_after_last 11 t0_3 (by decide +kernel) _ fun j => ?_
  blk_simp
  rw [after0_11, Pipeline.eq_sum_fin_of_reset_step_apply_last (fun n h => (outsAt0 m c n h).2) 4 (fun _ => 0)
    (fun t _ => Rule.half * ∑ r : Fin 1024, due m c (row t r)) (fun t h j => loss_first m c t h j) (fun t h j => loss_next m c t h j)
    (le_of_eq N_0) t0_3 rfl _, parts, zero_add]
  rfl

end Cert.KernelIdeal.Final
-- ==== Proof.Agree.lean ====
module

public import proofs.«01_k».proof.Defs
public import proofs.«01_k».proof.Proof.Final

@[expose] public section

set_option maxRecDepth 16384

/-!
# The kernel's results are the reference's

The stated precondition says the row numbers are in order; the two programs then end with the same table and the same
loss, whatever the arguments hold.
-/

noncomputable section

namespace Cert.Agree

open Idealize.ShloMosaic Idealize.ShloMosaic.TcCoe Idealize.SL.Sem
open Cert.ReferenceIdeal.Layers (InOrder newState wholeLoss)

/-- The precondition states no side condition. -/
instance preFacts : Cert.Pre_rows_in_order.Facts := ⟨⟩

/-- An equality's bit is one only where the words are equal. -/
theorem eq_of_bit (a b : BitVec 32) (h : BitVec.ofBool (a == b) = 1#1) : a = b := by
  by_contra hne
  rw [beq_eq_false_iff_ne.2 hne] at h
  exact absurd h (by decide)

/-- The precondition puts the row numbers in order. -/
theorem inOrder (m : (ℓ : Loc KernelIdeal.nD KernelIdeal.τ KernelIdeal.sig) → Buf (Elt Ideal) ℓ) (h : Cert.Pre_KernelIdeal_rows_in_order m)
    (c : Dev KernelIdeal.nD) : InOrder (m ((c.tc : Thread KernelIdeal.nD KernelIdeal.τ).loc KernelIdeal.main_arg4)) := by
  intro r
  have e := congrFun (h c) (ix1 r)
  exact eq_of_bit _ _ e

variable (m : (ℓ : Loc KernelIdeal.nD KernelIdeal.τ KernelIdeal.sig) → Buf (Elt Ideal) ℓ) (c : Dev KernelIdeal.nD)
variable (m' : (ℓ : Loc ReferenceIdeal.nD ReferenceIdeal.τ ReferenceIdeal.sig) → Buf (Elt Ideal) ℓ)

/-- The two programs' arguments hold the same on a device. -/
def Same : Prop :=
      m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)
      ∧ m' ((c.tc : Thread ReferenceIdeal.nD ReferenceIdeal.τ).loc ReferenceIdeal.main_arg5) = m ((c.tc : Thread KernelIdeal.nD KernelIdeal.τ).loc KernelIdeal.main_arg5)
      ∧ m' ((c.tc : Thread ReferenceIdeal.nD ReferenceIdeal.τ).loc ReferenceIdeal.main_arg6) = m ((c.tc : Thread KernelIdeal.nD KernelIdeal.τ).loc KernelIdeal.main_arg6)
      ∧ m' ((c.tc : Thread ReferenceIdeal.nD ReferenceIdeal.τ).loc ReferenceIdeal.main_arg7) = m ((c.tc : Thread KernelIdeal.nD KernelIdeal.τ).loc KernelIdeal.main_arg7)
      ∧ m' ((c.tc : Thread ReferenceIdeal.nD ReferenceIdeal.τ).loc ReferenceIdeal.main_arg8) = m ((c.tc : Thread KernelIdeal.nD KernelIdeal.τ).loc KernelIdeal.main_arg8)
      ∧ m' ((c.tc : Thread ReferenceIdeal.nD ReferenceIdeal.τ).loc ReferenceIdeal.main_arg9) = m ((c.tc : Thread KernelIdeal.nD KernelIdeal.τ).loc KernelIdeal.main_arg9)
      ∧ m' ((c.tc : Thread ReferenceIdeal.nD ReferenceIdeal.τ).loc ReferenceIdeal.main_arg10) = m ((c.tc : Thread KernelIdeal.nD KernelIdeal.τ).loc KernelIdeal.main_arg10)

/-- The loss as the kernel's arguments give it. -/
def loss : Vec Ideal KernelIdeal.S_ .f32 := fun _ => wholeLoss (m ((c.tc : Thread KernelIdeal.nD KernelIdeal.τ).loc KernelIdeal.main_arg1)) (m ((c.tc : Thread KernelIdeal.nD KernelIdeal.τ).loc KernelIdeal.main_arg2)) (m ((c.tc : Thread KernelIdeal.nD KernelIdeal.τ).loc KernelIdeal.main_arg3))

/-- After the last point, the kernel's second result is the loss. -/
theorem kernel_loss : Pipeline.afterTail₀ KernelIdeal.cfgs (KernelIdeal.Gen.dats m) 0 (KernelIdeal.Gen.V0 m) [KernelIdeal.Gen.hostOps1] c
    KernelIdeal.main_v10 = loss m c := by
  have e := Pipeline.withArrays_arr (KernelIdeal.cfgs 0).spec (by decide) c (KernelIdeal.Gen.V0 m c)
    (fun w => (KernelIdeal.Gen.dats m 0 c).arrAt w (KernelIdeal.cfgs 0).N) 11
  show StableHlo.after KernelIdeal.Gen.hostOps1 _ _ = _
  after_results
  funext i
  exact congrFun (e.trans (KernelIdeal.Final.loss_final m c)) _

/-- The reference's table is the kernel's. -/
theorem tables (h : Cert.Pre_KernelIdeal_rows_in_order m) (e : Same m c m') :
    ReferenceIdeal.Value.res_main_v79 m' c = KernelIdeal.Final.table m c := by
  obtain ⟨e0, e1, e2, e3, e4, e5, e6, e7, e8, e9, e10⟩ := e
  have hi := inOrder m h c
  rw [← e4] at hi
  funext i
  idx_vars i
  refine (ReferenceIdeal.Layers.res_table m' c hi i0 i1).trans ?_
  rw [e0, e1, e2, e3, e5, e6, e7, e8, e9, e10]
  rfl

/-- The reference's loss is the kernel's. -/
theorem losses (h : Cert.Pre_KernelIdeal_rows_in_order m) (e : Same m c m') :
    ReferenceIdeal.Value.res_main_v14 m' c = loss m c := by
  obtain ⟨e0, e1, e2, e3, e4, e5, e6, e7, e8, e9, e10⟩ := e
  have hi := inOrder m h c
  rw [← e4] at hi
  funext i
  refine (ReferenceIdeal.Layers.res_loss m' c hi i).trans ?_
  rw [e1, e2, e3]
  rfl

end Cert.Agree
-- ==== Proof.lean ====
/- The proof of every claim: the frames are the generated ones; the value claim is `Cert.Agree`'s two equations between
   what the kernel's arrays hold at the end and what the reference computes. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Lib.Claim
public import Idealize.ShloMosaic.Adequacy
public import Idealize.ShloMosaic.Lib.Quiescent
public import Idealize.ShloMosaic.Init

@[expose] public section

set_option maxRecDepth 16384

noncomputable section

namespace Cert.Proof

open Idealize.ShloMosaic Idealize.SL.Sem Cert.Kernel

/-- The reference ends with its arguments as they were and every counter at zero. -/
theorem frame_reference : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩)
    (Cert.ReferenceIdeal.Value.run m g)

/-- With the row numbers in order, the kernel and the reference end with the same table and the same loss. -/
theorem algebraic : Cert.algebraic_KernelIdeal_ReferenceIdeal_pre_rows_in_order (hKernelIdeal := Cert.KernelIdeal.Gen.facts)
    (hReferenceIdeal := Cert.ReferenceIdeal.Gen.facts) (hPre_rows_in_order := Cert.Agree.preFacts) := by
  intro m g m' g' h e
  refine ⟨fun c => Cert.KernelIdeal.Final.table m c, fun c => Cert.Agree.loss m c, ?_, ?_⟩
  · refine (θ_run _ _ _).mono (fun r hr c => ⟨?_, ?_, hr.2 c⟩)
      (θ_run_and (Cert.KernelIdeal.Gen.run_main m g) (Cert.KernelIdeal.Gen.unchanged m g))
    · exact ((hr.1 c).1 10).trans (Cert.KernelIdeal.Final.table_final m c)
    · exact ((hr.1 c).2 Cert.KernelIdeal.main_v10 (Pipeline.mem_restRefs_of Cert.KernelIdeal.main_v10 (by decide) (by decide))).trans
        (Cert.Agree.kernel_loss m c)
  · exact (θ_run _ _ _).mono (fun r hr c => ⟨(hr c).1.trans (Cert.Agree.tables m c m' h (e c)),
      (hr c).2.1.trans (Cert.Agree.losses m c m' h (e c)), (hr c).2.2⟩) (Cert.ReferenceIdeal.Value.run m' g')

/-- Every claim. -/
theorem claim : Cert.Claim := ⟨Cert.Kernel.Gen.facts, Cert.KernelIdeal.Gen.facts, Cert.ReferenceIdeal.Gen.facts, Cert.Agree.preFacts,
  fun m g _ => Cert.Kernel.Gen.frame m g, fun m g _ => Cert.KernelIdeal.Gen.frame m g, fun m g _ => Cert.KernelIdeal.Gen.frame m g,
  frame_reference, fun m g _ => frame_reference m g trivial, trivial, algebraic⟩

end Cert.Proof

end
